-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v415) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x3x224x224 : Shape := ⟨4, ![16, 3, 224, 224]⟩
abbrev S64x3x4x4 : Shape := ⟨4, ![64, 3, 4, 4]⟩
abbrev S64 : Shape := ⟨1, ![64]⟩
abbrev S128x64x4x4 : Shape := ⟨4, ![128, 64, 4, 4]⟩
abbrev S128 : Shape := ⟨1, ![128]⟩
abbrev S256x128x4x4 : Shape := ⟨4, ![256, 128, 4, 4]⟩
abbrev S256 : Shape := ⟨1, ![256]⟩
abbrev S256x256x4x4 : Shape := ⟨4, ![256, 256, 4, 4]⟩
abbrev S3x256x256 : Shape := ⟨3, ![3, 256, 256]⟩
abbrev S16x224x224x3 : Shape := ⟨4, ![16, 224, 224, 3]⟩
abbrev S_ : Shape := ⟨0, ![]⟩
abbrev S16x227x227x3 : Shape := ⟨4, ![16, 227, 227, 3]⟩
abbrev S16x112x112x3 : Shape := ⟨4, ![16, 112, 112, 3]⟩
abbrev S16x112x112x48 : Shape := ⟨4, ![16, 112, 112, 48]⟩
abbrev S4x4x3x64 : Shape := ⟨4, ![4, 4, 3, 64]⟩
abbrev S48x64 : Shape := ⟨2, ![48, 64]⟩
abbrev S1x64 : Shape := ⟨2, ![1, 64]⟩
abbrev S16x112x112x64 : Shape := ⟨4, ![16, 112, 112, 64]⟩
abbrev S1x112x112x48 : Shape := ⟨4, ![1, 112, 112, 48]⟩
abbrev S1x112x112x64 : Shape := ⟨4, ![1, 112, 112, 64]⟩
abbrev S112x112x48 : Shape := ⟨3, ![112, 112, 48]⟩
abbrev S12544x48 : Shape := ⟨2, ![12544, 48]⟩
abbrev S12544x64 : Shape := ⟨2, ![12544, 64]⟩
abbrev S112x112x64 : Shape := ⟨3, ![112, 112, 64]⟩
abbrev S16x56x2x56x2x64 : Shape := ⟨6, ![16, 56, 2, 56, 2, 64]⟩
abbrev S16x56x1x56x1x64 : Shape := ⟨6, ![16, 56, 1, 56, 1, 64]⟩
abbrev S16x56x56x64 : Shape := ⟨4, ![16, 56, 56, 64]⟩
abbrev S16x57x57x64 : Shape := ⟨4, ![16, 57, 57, 64]⟩
abbrev S16x57x57x256 : Shape := ⟨4, ![16, 57, 57, 256]⟩
abbrev S4x4x64x128 : Shape := ⟨4, ![4, 4, 64, 128]⟩
abbrev S1024x128 : Shape := ⟨2, ![1024, 128]⟩
abbrev S1x128 : Shape := ⟨2, ![1, 128]⟩
abbrev S16x56x56x128 : Shape := ⟨4, ![16, 56, 56, 128]⟩
abbrev S1x57x57x256 : Shape := ⟨4, ![1, 57, 57, 256]⟩
abbrev S1x56x56x128 : Shape := ⟨4, ![1, 56, 56, 128]⟩
abbrev S56x56x128 : Shape := ⟨3, ![56, 56, 128]⟩
abbrev S56x56x256 : Shape := ⟨3, ![56, 56, 256]⟩
abbrev S3136x256 : Shape := ⟨2, ![3136, 256]⟩
abbrev S256x128 : Shape := ⟨2, ![256, 128]⟩
abbrev S3136x128 : Shape := ⟨2, ![3136, 128]⟩
abbrev S16x28x2x28x2x128 : Shape := ⟨6, ![16, 28, 2, 28, 2, 128]⟩
abbrev S16x28x1x28x1x128 : Shape := ⟨6, ![16, 28, 1, 28, 1, 128]⟩
abbrev S16x28x28x128 : Shape := ⟨4, ![16, 28, 28, 128]⟩
abbrev S16x29x29x128 : Shape := ⟨4, ![16, 29, 29, 128]⟩
abbrev S16x29x29x512 : Shape := ⟨4, ![16, 29, 29, 512]⟩
abbrev S4x4x128x256 : Shape := ⟨4, ![4, 4, 128, 256]⟩
abbrev S2048x256 : Shape := ⟨2, ![2048, 256]⟩
abbrev S1x256 : Shape := ⟨2, ![1, 256]⟩
abbrev S16x28x28x256 : Shape := ⟨4, ![16, 28, 28, 256]⟩
abbrev S1x29x29x512 : Shape := ⟨4, ![1, 29, 29, 512]⟩
abbrev S1x28x28x256 : Shape := ⟨4, ![1, 28, 28, 256]⟩
abbrev S28x28x256 : Shape := ⟨3, ![28, 28, 256]⟩
abbrev S784x256 : Shape := ⟨2, ![784, 256]⟩
abbrev S256x256 : Shape := ⟨2, ![256, 256]⟩
abbrev S16x14x2x14x2x256 : Shape := ⟨6, ![16, 14, 2, 14, 2, 256]⟩
abbrev S16x14x1x14x1x256 : Shape := ⟨6, ![16, 14, 1, 14, 1, 256]⟩
abbrev S16x14x14x256 : Shape := ⟨4, ![16, 14, 14, 256]⟩
abbrev S16x15x15x256 : Shape := ⟨4, ![16, 15, 15, 256]⟩
abbrev S16x15x15x1024 : Shape := ⟨4, ![16, 15, 15, 1024]⟩
abbrev S4x4x256x256 : Shape := ⟨4, ![4, 4, 256, 256]⟩
abbrev S4096x256 : Shape := ⟨2, ![4096, 256]⟩
abbrev S1x15x15x1024 : Shape := ⟨4, ![1, 15, 15, 1024]⟩
abbrev S1x14x14x256 : Shape := ⟨4, ![1, 14, 14, 256]⟩
abbrev S1x14x14x512 : Shape := ⟨4, ![1, 14, 14, 512]⟩
abbrev S14x14x512 : Shape := ⟨3, ![14, 14, 512]⟩
abbrev S196x512 : Shape := ⟨2, ![196, 512]⟩
abbrev S196x256 : Shape := ⟨2, ![196, 256]⟩
abbrev S14x14x256 : Shape := ⟨3, ![14, 14, 256]⟩
abbrev S3x3136 : Shape := ⟨2, ![3, 3136]⟩
abbrev S1x256x256 : Shape := ⟨3, ![1, 256, 256]⟩
abbrev S3136 : Shape := ⟨1, ![3136]⟩
abbrev S3136x1 : Shape := ⟨2, ![3136, 1]⟩
abbrev S1x3136 : Shape := ⟨2, ![1, 3136]⟩
abbrev S3136x3 : Shape := ⟨2, ![3136, 3]⟩
abbrev S16x196x3 : Shape := ⟨3, ![16, 196, 3]⟩

abbrev nBuf : Space → Nat
  | .hbm => 117
  | .vmem => 27
  | .smem => 0
  | _ => 0

abbrev bufTy : (tb : Table) → Fin (tcTables nBuf tb) → BufTy
  | .hbm, ⟨0, _⟩ => ⟨S16x3x224x224, .f32⟩
  | .hbm, ⟨1, _⟩ => ⟨S64x3x4x4, .f32⟩
  | .hbm, ⟨2, _⟩ => ⟨S64, .f32⟩
  | .hbm, ⟨3, _⟩ => ⟨S128x64x4x4, .f32⟩
  | .hbm, ⟨4, _⟩ => ⟨S128, .f32⟩
  | .hbm, ⟨5, _⟩ => ⟨S256x128x4x4, .f32⟩
  | .hbm, ⟨6, _⟩ => ⟨S256, .f32⟩
  | .hbm, ⟨7, _⟩ => ⟨S256x256x4x4, .f32⟩
  | .hbm, ⟨8, _⟩ => ⟨S256, .f32⟩
  | .hbm, ⟨9, _⟩ => ⟨S3x256x256, .f32⟩
  | .hbm, ⟨10, _⟩ => ⟨S16x224x224x3, .f32⟩
  | .hbm, ⟨11, _⟩ => ⟨S_, .i32⟩
  | .hbm, ⟨12, _⟩ => ⟨S_, .f32⟩
  | .hbm, ⟨13, _⟩ => ⟨S16x227x227x3, .f32⟩
  | .hbm, ⟨14, _⟩ => ⟨S16x112x112x3, .f32⟩
  | .hbm, ⟨15, _⟩ => ⟨S16x112x112x3, .f32⟩
  | .hbm, ⟨16, _⟩ => ⟨S16x112x112x3, .f32⟩
  | .hbm, ⟨17, _⟩ => ⟨S16x112x112x3, .f32⟩
  | .hbm, ⟨18, _⟩ => ⟨S16x112x112x3, .f32⟩
  | .hbm, ⟨19, _⟩ => ⟨S16x112x112x3, .f32⟩
  | .hbm, ⟨20, _⟩ => ⟨S16x112x112x3, .f32⟩
  | .hbm, ⟨21, _⟩ => ⟨S16x112x112x3, .f32⟩
  | .hbm, ⟨22, _⟩ => ⟨S16x112x112x3, .f32⟩
  | .hbm, ⟨23, _⟩ => ⟨S16x112x112x3, .f32⟩
  | .hbm, ⟨24, _⟩ => ⟨S16x112x112x3, .f32⟩
  | .hbm, ⟨25, _⟩ => ⟨S16x112x112x3, .f32⟩
  | .hbm, ⟨26, _⟩ => ⟨S16x112x112x3, .f32⟩
  | .hbm, ⟨27, _⟩ => ⟨S16x112x112x3, .f32⟩
  | .hbm, ⟨28, _⟩ => ⟨S16x112x112x3, .f32⟩
  | .hbm, ⟨29, _⟩ => ⟨S16x112x112x3, .f32⟩
  | .hbm, ⟨30, _⟩ => ⟨S16x112x112x48, .f32⟩
  | .hbm, ⟨31, _⟩ => ⟨S4x4x3x64, .f32⟩
  | .hbm, ⟨32, _⟩ => ⟨S48x64, .f32⟩
  | .hbm, ⟨33, _⟩ => ⟨S1x64, .f32⟩
  | .hbm, ⟨34, _⟩ => ⟨S16x112x112x64, .f32⟩
  | .hbm, ⟨35, _⟩ => ⟨S16x56x2x56x2x64, .f32⟩
  | .hbm, ⟨36, _⟩ => ⟨S16x56x1x56x1x64, .f32⟩
  | .hbm, ⟨37, _⟩ => ⟨S16x56x56x64, .f32⟩
  | .hbm, ⟨38, _⟩ => ⟨S_, .i32⟩
  | .hbm, ⟨39, _⟩ => ⟨S_, .f32⟩
  | .hbm, ⟨40, _⟩ => ⟨S16x57x57x64, .f32⟩
  | .hbm, ⟨41, _⟩ => ⟨S16x56x1x56x1x64, .f32⟩
  | .hbm, ⟨42, _⟩ => ⟨S16x56x56x64, .f32⟩
  | .hbm, ⟨43, _⟩ => ⟨S_, .i32⟩
  | .hbm, ⟨44, _⟩ => ⟨S_, .f32⟩
  | .hbm, ⟨45, _⟩ => ⟨S16x57x57x64, .f32⟩
  | .hbm, ⟨46, _⟩ => ⟨S16x56x1x56x1x64, .f32⟩
  | .hbm, ⟨47, _⟩ => ⟨S16x56x56x64, .f32⟩
  | .hbm, ⟨48, _⟩ => ⟨S_, .i32⟩
  | .hbm, ⟨49, _⟩ => ⟨S_, .f32⟩
  | .hbm, ⟨50, _⟩ => ⟨S16x57x57x64, .f32⟩
  | .hbm, ⟨51, _⟩ => ⟨S16x56x1x56x1x64, .f32⟩
  | .hbm, ⟨52, _⟩ => ⟨S16x56x56x64, .f32⟩
  | .hbm, ⟨53, _⟩ => ⟨S_, .i32⟩
  | .hbm, ⟨54, _⟩ => ⟨S_, .f32⟩
  | .hbm, ⟨55, _⟩ => ⟨S16x57x57x64, .f32⟩
  | .hbm, ⟨56, _⟩ => ⟨S16x57x57x256, .f32⟩
  | .hbm, ⟨57, _⟩ => ⟨S4x4x64x128, .f32⟩
  | .hbm, ⟨58, _⟩ => ⟨S1024x128, .f32⟩
  | .hbm, ⟨59, _⟩ => ⟨S1x128, .f32⟩
  | .hbm, ⟨60, _⟩ => ⟨S16x56x56x128, .f32⟩
  | .hbm, ⟨61, _⟩ => ⟨S16x28x2x28x2x128, .f32⟩
  | .hbm, ⟨62, _⟩ => ⟨S16x28x1x28x1x128, .f32⟩
  | .hbm, ⟨63, _⟩ => ⟨S16x28x28x128, .f32⟩
  | .hbm, ⟨64, _⟩ => ⟨S_, .i32⟩
  | .hbm, ⟨65, _⟩ => ⟨S_, .f32⟩
  | .hbm, ⟨66, _⟩ => ⟨S16x29x29x128, .f32⟩
  | .hbm, ⟨67, _⟩ => ⟨S16x28x1x28x1x128, .f32⟩
  | .hbm, ⟨68, _⟩ => ⟨S16x28x28x128, .f32⟩
  | .hbm, ⟨69, _⟩ => ⟨S_, .i32⟩
  | .hbm, ⟨70, _⟩ => ⟨S_, .f32⟩
  | .hbm, ⟨71, _⟩ => ⟨S16x29x29x128, .f32⟩
  | .hbm, ⟨72, _⟩ => ⟨S16x28x1x28x1x128, .f32⟩
  | .hbm, ⟨73, _⟩ => ⟨S16x28x28x128, .f32⟩
  | .hbm, ⟨74, _⟩ => ⟨S_, .i32⟩
  | .hbm, ⟨75, _⟩ => ⟨S_, .f32⟩
  | .hbm, ⟨76, _⟩ => ⟨S16x29x29x128, .f32⟩
  | .hbm, ⟨77, _⟩ => ⟨S16x28x1x28x1x128, .f32⟩
  | .hbm, ⟨78, _⟩ => ⟨S16x28x28x128, .f32⟩
  | .hbm, ⟨79, _⟩ => ⟨S_, .i32⟩
  | .hbm, ⟨80, _⟩ => ⟨S_, .f32⟩
  | .hbm, ⟨81, _⟩ => ⟨S16x29x29x128, .f32⟩
  | .hbm, ⟨82, _⟩ => ⟨S16x29x29x512, .f32⟩
  | .hbm, ⟨83, _⟩ => ⟨S4x4x128x256, .f32⟩
  | .hbm, ⟨84, _⟩ => ⟨S2048x256, .f32⟩
  | .hbm, ⟨85, _⟩ => ⟨S1x256, .f32⟩
  | .hbm, ⟨86, _⟩ => ⟨S16x28x28x256, .f32⟩
  | .hbm, ⟨87, _⟩ => ⟨S16x14x2x14x2x256, .f32⟩
  | .hbm, ⟨88, _⟩ => ⟨S16x14x1x14x1x256, .f32⟩
  | .hbm, ⟨89, _⟩ => ⟨S16x14x14x256, .f32⟩
  | .hbm, ⟨90, _⟩ => ⟨S_, .i32⟩
  | .hbm, ⟨91, _⟩ => ⟨S_, .f32⟩
  | .hbm, ⟨92, _⟩ => ⟨S16x15x15x256, .f32⟩
  | .hbm, ⟨93, _⟩ => ⟨S16x14x1x14x1x256, .f32⟩
  | .hbm, ⟨94, _⟩ => ⟨S16x14x14x256, .f32⟩
  | .hbm, ⟨95, _⟩ => ⟨S_, .i32⟩
  | .hbm, ⟨96, _⟩ => ⟨S_, .f32⟩
  | .hbm, ⟨97, _⟩ => ⟨S16x15x15x256, .f32⟩
  | .hbm, ⟨98, _⟩ => ⟨S16x14x1x14x1x256, .f32⟩
  | .hbm, ⟨99, _⟩ => ⟨S16x14x14x256, .f32⟩
  | .hbm, ⟨100, _⟩ => ⟨S_, .i32⟩
  | .hbm, ⟨101, _⟩ => ⟨S_, .f32⟩
  | .hbm, ⟨102, _⟩ => ⟨S16x15x15x256, .f32⟩
  | .hbm, ⟨103, _⟩ => ⟨S16x14x1x14x1x256, .f32⟩
  | .hbm, ⟨104, _⟩ => ⟨S16x14x14x256, .f32⟩
  | .hbm, ⟨105, _⟩ => ⟨S_, .i32⟩
  | .hbm, ⟨106, _⟩ => ⟨S_, .f32⟩
  | .hbm, ⟨107, _⟩ => ⟨S16x15x15x256, .f32⟩
  | .hbm, ⟨108, _⟩ => ⟨S16x15x15x1024, .f32⟩
  | .hbm, ⟨109, _⟩ => ⟨S4x4x256x256, .f32⟩
  | .hbm, ⟨110, _⟩ => ⟨S4096x256, .f32⟩
  | .hbm, ⟨111, _⟩ => ⟨S1x256, .f32⟩
  | .hbm, ⟨112, _⟩ => ⟨S16x14x14x256, .f32⟩
  | .hbm, ⟨113, _⟩ => ⟨S3136x256, .f32⟩
  | .hbm, ⟨114, _⟩ => ⟨S3x3136, .i32⟩
  | .hbm, ⟨115, _⟩ => ⟨S3136x3, .i32⟩
  | .hbm, ⟨116, _⟩ => ⟨S16x196x3, .i32⟩
  | .local _ .vmem, ⟨0, _⟩ => ⟨S1x112x112x48, .f32⟩
  | .local _ .vmem, ⟨1, _⟩ => ⟨S1x112x112x48, .f32⟩
  | .local _ .vmem, ⟨2, _⟩ => ⟨S48x64, .f32⟩
  | .local _ .vmem, ⟨3, _⟩ => ⟨S1x64, .f32⟩
  | .local _ .vmem, ⟨4, _⟩ => ⟨S1x112x112x64, .f32⟩
  | .local _ .vmem, ⟨5, _⟩ => ⟨S1x112x112x64, .f32⟩
  | .local _ .vmem, ⟨6, _⟩ => ⟨S1x57x57x256, .f32⟩
  | .local _ .vmem, ⟨7, _⟩ => ⟨S1x57x57x256, .f32⟩
  | .local _ .vmem, ⟨8, _⟩ => ⟨S1024x128, .f32⟩
  | .local _ .vmem, ⟨9, _⟩ => ⟨S1x128, .f32⟩
  | .local _ .vmem, ⟨10, _⟩ => ⟨S1x56x56x128, .f32⟩
  | .local _ .vmem, ⟨11, _⟩ => ⟨S1x56x56x128, .f32⟩
  | .local _ .vmem, ⟨12, _⟩ => ⟨S1x29x29x512, .f32⟩
  | .local _ .vmem, ⟨13, _⟩ => ⟨S1x29x29x512, .f32⟩
  | .local _ .vmem, ⟨14, _⟩ => ⟨S2048x256, .f32⟩
  | .local _ .vmem, ⟨15, _⟩ => ⟨S1x256, .f32⟩
  | .local _ .vmem, ⟨16, _⟩ => ⟨S1x28x28x256, .f32⟩
  | .local _ .vmem, ⟨17, _⟩ => ⟨S1x28x28x256, .f32⟩
  | .local _ .vmem, ⟨18, _⟩ => ⟨S1x15x15x1024, .f32⟩
  | .local _ .vmem, ⟨19, _⟩ => ⟨S1x15x15x1024, .f32⟩
  | .local _ .vmem, ⟨20, _⟩ => ⟨S4096x256, .f32⟩
  | .local _ .vmem, ⟨21, _⟩ => ⟨S1x256, .f32⟩
  | .local _ .vmem, ⟨22, _⟩ => ⟨S1x14x14x256, .f32⟩
  | .local _ .vmem, ⟨23, _⟩ => ⟨S1x14x14x256, .f32⟩
  | .local _ .vmem, ⟨24, _⟩ => ⟨S3136x256, .f32⟩
  | .local _ .vmem, ⟨25, _⟩ => ⟨S3x256x256, .f32⟩
  | .local _ .vmem, ⟨26, _⟩ => ⟨S3x3136, .i32⟩
  | _, _ => ⟨S16x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_0 : Ref sig .tc := ⟨.hbm, 38, rfl⟩
abbrev main_call1_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_1 : Ref sig .tc := ⟨.hbm, 43, rfl⟩
abbrev main_call2_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_2 : Ref sig .tc := ⟨.hbm, 48, rfl⟩
abbrev main_call3_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_3 : Ref sig .tc := ⟨.hbm, 53, rfl⟩
abbrev main_call4_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_4 : Ref sig .tc := ⟨.hbm, 64, rfl⟩
abbrev main_call5_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_5 : Ref sig .tc := ⟨.hbm, 69, rfl⟩
abbrev main_call6_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_6 : Ref sig .tc := ⟨.hbm, 74, rfl⟩
abbrev main_call7_v0 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_7 : Ref sig .tc := ⟨.hbm, 79, rfl⟩
abbrev main_call8_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_8 : Ref sig .tc := ⟨.hbm, 90, rfl⟩
abbrev main_call9_v0 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_9 : Ref sig .tc := ⟨.hbm, 95, rfl⟩
abbrev main_call10_v0 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_10 : Ref sig .tc := ⟨.hbm, 100, rfl⟩
abbrev main_call11_v0 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_11 : Ref sig .tc := ⟨.hbm, 105, rfl⟩
abbrev main_call12_v0 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem1_0 : DmaSem sig := 25
abbrev cc4_sem2_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x112x112x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x112x112x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x57x57x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x56x56x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x29x29x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x28x28x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x15x15x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x14x14x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := .none

abbrev stage4_0 : Fin 1 → Memref sig .tc .vmem S3136x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S3x256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S3x3136 .i32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
-- ==== ReferenceIdeal.lean ====
abbrev S16x3x224x224 : Shape := ⟨4, ![16, 3, 224, 224]⟩
abbrev S64x3x4x4 : Shape := ⟨4, ![64, 3, 4, 4]⟩
abbrev S64 : Shape := ⟨1, ![64]⟩
abbrev S128x64x4x4 : Shape := ⟨4, ![128, 64, 4, 4]⟩
abbrev S128 : Shape := ⟨1, ![128]⟩
abbrev S256x128x4x4 : Shape := ⟨4, ![256, 128, 4, 4]⟩
abbrev S256 : Shape := ⟨1, ![256]⟩
abbrev S256x256x4x4 : Shape := ⟨4, ![256, 256, 4, 4]⟩
abbrev S3x256x256 : Shape := ⟨3, ![3, 256, 256]⟩
abbrev S16x224x224x3 : Shape := ⟨4, ![16, 224, 224, 3]⟩
abbrev S_ : Shape := ⟨0, ![]⟩
abbrev S16x226x226x3 : Shape := ⟨4, ![16, 226, 226, 3]⟩
abbrev S16x112x112x3 : Shape := ⟨4, ![16, 112, 112, 3]⟩
abbrev S64x3x1x1 : Shape := ⟨4, ![64, 3, 1, 1]⟩
abbrev S64x3 : Shape := ⟨2, ![64, 3]⟩
abbrev S16x112x112x64 : Shape := ⟨4, ![16, 112, 112, 64]⟩
abbrev S1x1x1x64 : Shape := ⟨4, ![1, 1, 1, 64]⟩
abbrev S16x114x114x64 : Shape := ⟨4, ![16, 114, 114, 64]⟩
abbrev S16x56x56x64 : Shape := ⟨4, ![16, 56, 56, 64]⟩
abbrev S128x64x1x1 : Shape := ⟨4, ![128, 64, 1, 1]⟩
abbrev S128x64 : Shape := ⟨2, ![128, 64]⟩
abbrev S16x56x56x128 : Shape := ⟨4, ![16, 56, 56, 128]⟩
abbrev S1x1x1x128 : Shape := ⟨4, ![1, 1, 1, 128]⟩
abbrev S16x58x58x128 : Shape := ⟨4, ![16, 58, 58, 128]⟩
abbrev S16x28x28x128 : Shape := ⟨4, ![16, 28, 28, 128]⟩
abbrev S256x128x1x1 : Shape := ⟨4, ![256, 128, 1, 1]⟩
abbrev S256x128 : Shape := ⟨2, ![256, 128]⟩
abbrev S16x28x28x256 : Shape := ⟨4, ![16, 28, 28, 256]⟩
abbrev S1x1x1x256 : Shape := ⟨4, ![1, 1, 1, 256]⟩
abbrev S16x30x30x256 : Shape := ⟨4, ![16, 30, 30, 256]⟩
abbrev S16x14x14x256 : Shape := ⟨4, ![16, 14, 14, 256]⟩
abbrev S256x256x1x1 : Shape := ⟨4, ![256, 256, 1, 1]⟩
abbrev S256x256 : Shape := ⟨2, ![256, 256]⟩
abbrev S16x196x256 : Shape := ⟨3, ![16, 196, 256]⟩
abbrev S1x256x256 : Shape := ⟨3, ![1, 256, 256]⟩
abbrev S16x196 : Shape := ⟨2, ![16, 196]⟩
abbrev S16x196x1 : Shape := ⟨3, ![16, 196, 1]⟩
abbrev S1x1x256 : Shape := ⟨3, ![1, 1, 256]⟩
abbrev S16x196x3 : Shape := ⟨3, ![16, 196, 3]⟩

abbrev nBuf : Space → Nat
  | .hbm => 467
  | .vmem => 0
  | .smem => 0
  | _ => 0

abbrev hbmTy0_0 (i : Nat) : BufTy := match i % 128 with
  | 0 => ⟨S16x3x224x224, .f32⟩
  | 1 => ⟨S64x3x4x4, .f32⟩
  | 2 => ⟨S64, .f32⟩
  | 3 => ⟨S128x64x4x4, .f32⟩
  | 4 => ⟨S128, .f32⟩
  | 5 => ⟨S256x128x4x4, .f32⟩
  | 6 => ⟨S256, .f32⟩
  | 7 => ⟨S256x256x4x4, .f32⟩
  | 8 => ⟨S256, .f32⟩
  | 9 => ⟨S3x256x256, .f32⟩
  | 10 => ⟨S16x224x224x3, .f32⟩
  | 11 => ⟨S_, .i32⟩
  | 12 => ⟨S_, .f32⟩
  | 13 => ⟨S16x226x226x3, .f32⟩
  | 14 => ⟨S16x112x112x3, .f32⟩
  | 15 => ⟨S64x3x1x1, .f32⟩
  | 16 => ⟨S64x3, .f32⟩
  | 17 => ⟨S16x112x112x64, .f32⟩
  | 18 => ⟨S16x112x112x3, .f32⟩
  | 19 => ⟨S64x3x1x1, .f32⟩
  | 20 => ⟨S64x3, .f32⟩
  | 21 => ⟨S16x112x112x64, .f32⟩
  | 22 => ⟨S16x112x112x64, .f32⟩
  | 23 => ⟨S16x112x112x3, .f32⟩
  | 24 => ⟨S64x3x1x1, .f32⟩
  | 25 => ⟨S64x3, .f32⟩
  | 26 => ⟨S16x112x112x64, .f32⟩
  | 27 => ⟨S16x112x112x64, .f32⟩
  | 28 => ⟨S16x112x112x3, .f32⟩
  | 29 => ⟨S64x3x1x1, .f32⟩
  | 30 => ⟨S64x3, .f32⟩
  | 31 => ⟨S16x112x112x64, .f32⟩
  | 32 => ⟨S16x112x112x64, .f32⟩
  | 33 => ⟨S16x112x112x3, .f32⟩
  | 34 => ⟨S64x3x1x1, .f32⟩
  | 35 => ⟨S64x3, .f32⟩
  | 36 => ⟨S16x112x112x64, .f32⟩
  | 37 => ⟨S16x112x112x64, .f32⟩
  | 38 => ⟨S16x112x112x3, .f32⟩
  | 39 => ⟨S64x3x1x1, .f32⟩
  | 40 => ⟨S64x3, .f32⟩
  | 41 => ⟨S16x112x112x64, .f32⟩
  | 42 => ⟨S16x112x112x64, .f32⟩
  | 43 => ⟨S16x112x112x3, .f32⟩
  | 44 => ⟨S64x3x1x1, .f32⟩
  | 45 => ⟨S64x3, .f32⟩
  | 46 => ⟨S16x112x112x64, .f32⟩
  | 47 => ⟨S16x112x112x64, .f32⟩
  | 48 => ⟨S16x112x112x3, .f32⟩
  | 49 => ⟨S64x3x1x1, .f32⟩
  | 50 => ⟨S64x3, .f32⟩
  | 51 => ⟨S16x112x112x64, .f32⟩
  | 52 => ⟨S16x112x112x64, .f32⟩
  | 53 => ⟨S16x112x112x3, .f32⟩
  | 54 => ⟨S64x3x1x1, .f32⟩
  | 55 => ⟨S64x3, .f32⟩
  | 56 => ⟨S16x112x112x64, .f32⟩
  | 57 => ⟨S16x112x112x64, .f32⟩
  | 58 => ⟨S16x112x112x3, .f32⟩
  | 59 => ⟨S64x3x1x1, .f32⟩
  | 60 => ⟨S64x3, .f32⟩
  | 61 => ⟨S16x112x112x64, .f32⟩
  | 62 => ⟨S16x112x112x64, .f32⟩
  | 63 => ⟨S16x112x112x3, .f32⟩
  | 64 => ⟨S64x3x1x1, .f32⟩
  | 65 => ⟨S64x3, .f32⟩
  | 66 => ⟨S16x112x112x64, .f32⟩
  | 67 => ⟨S16x112x112x64, .f32⟩
  | 68 => ⟨S16x112x112x3, .f32⟩
  | 69 => ⟨S64x3x1x1, .f32⟩
  | 70 => ⟨S64x3, .f32⟩
  | 71 => ⟨S16x112x112x64, .f32⟩
  | 72 => ⟨S16x112x112x64, .f32⟩
  | 73 => ⟨S16x112x112x3, .f32⟩
  | 74 => ⟨S64x3x1x1, .f32⟩
  | 75 => ⟨S64x3, .f32⟩
  | 76 => ⟨S16x112x112x64, .f32⟩
  | 77 => ⟨S16x112x112x64, .f32⟩
  | 78 => ⟨S16x112x112x3, .f32⟩
  | 79 => ⟨S64x3x1x1, .f32⟩
  | 80 => ⟨S64x3, .f32⟩
  | 81 => ⟨S16x112x112x64, .f32⟩
  | 82 => ⟨S16x112x112x64, .f32⟩
  | 83 => ⟨S16x112x112x3, .f32⟩
  | 84 => ⟨S64x3x1x1, .f32⟩
  | 85 => ⟨S64x3, .f32⟩
  | 86 => ⟨S16x112x112x64, .f32⟩
  | 87 => ⟨S16x112x112x64, .f32⟩
  | 88 => ⟨S16x112x112x3, .f32⟩
  | 89 => ⟨S64x3x1x1, .f32⟩
  | 90 => ⟨S64x3, .f32⟩
  | 91 => ⟨S16x112x112x64, .f32⟩
  | 92 => ⟨S16x112x112x64, .f32⟩
  | 93 => ⟨S1x1x1x64, .f32⟩
  | 94 => ⟨S16x112x112x64, .f32⟩
  | 95 => ⟨S16x112x112x64, .f32⟩
  | 96 => ⟨S_, .f32⟩
  | 97 => ⟨S16x112x112x64, .f32⟩
  | 98 => ⟨S16x112x112x64, .f32⟩
  | 99 => ⟨S_, .i32⟩
  | 100 => ⟨S_, .f32⟩
  | 101 => ⟨S16x114x114x64, .f32⟩
  | 102 => ⟨S16x56x56x64, .f32⟩
  | 103 => ⟨S128x64x1x1, .f32⟩
  | 104 => ⟨S128x64, .f32⟩
  | 105 => ⟨S16x56x56x128, .f32⟩
  | 106 => ⟨S16x56x56x64, .f32⟩
  | 107 => ⟨S128x64x1x1, .f32⟩
  | 108 => ⟨S128x64, .f32⟩
  | 109 => ⟨S16x56x56x128, .f32⟩
  | 110 => ⟨S16x56x56x128, .f32⟩
  | 111 => ⟨S16x56x56x64, .f32⟩
  | 112 => ⟨S128x64x1x1, .f32⟩
  | 113 => ⟨S128x64, .f32⟩
  | 114 => ⟨S16x56x56x128, .f32⟩
  | 115 => ⟨S16x56x56x128, .f32⟩
  | 116 => ⟨S16x56x56x64, .f32⟩
  | 117 => ⟨S128x64x1x1, .f32⟩
  | 118 => ⟨S128x64, .f32⟩
  | 119 => ⟨S16x56x56x128, .f32⟩
  | 120 => ⟨S16x56x56x128, .f32⟩
  | 121 => ⟨S16x56x56x64, .f32⟩
  | 122 => ⟨S128x64x1x1, .f32⟩
  | 123 => ⟨S128x64, .f32⟩
  | 124 => ⟨S16x56x56x128, .f32⟩
  | 125 => ⟨S16x56x56x128, .f32⟩
  | 126 => ⟨S16x56x56x64, .f32⟩
  | 127 => ⟨S128x64x1x1, .f32⟩
  | _ => ⟨S16x3x224x224, .f32⟩

abbrev hbmTy0_1 (i : Nat) : BufTy := match i % 128 with
  | 0 => ⟨S128x64, .f32⟩
  | 1 => ⟨S16x56x56x128, .f32⟩
  | 2 => ⟨S16x56x56x128, .f32⟩
  | 3 => ⟨S16x56x56x64, .f32⟩
  | 4 => ⟨S128x64x1x1, .f32⟩
  | 5 => ⟨S128x64, .f32⟩
  | 6 => ⟨S16x56x56x128, .f32⟩
  | 7 => ⟨S16x56x56x128, .f32⟩
  | 8 => ⟨S16x56x56x64, .f32⟩
  | 9 => ⟨S128x64x1x1, .f32⟩
  | 10 => ⟨S128x64, .f32⟩
  | 11 => ⟨S16x56x56x128, .f32⟩
  | 12 => ⟨S16x56x56x128, .f32⟩
  | 13 => ⟨S16x56x56x64, .f32⟩
  | 14 => ⟨S128x64x1x1, .f32⟩
  | 15 => ⟨S128x64, .f32⟩
  | 16 => ⟨S16x56x56x128, .f32⟩
  | 17 => ⟨S16x56x56x128, .f32⟩
  | 18 => ⟨S16x56x56x64, .f32⟩
  | 19 => ⟨S128x64x1x1, .f32⟩
  | 20 => ⟨S128x64, .f32⟩
  | 21 => ⟨S16x56x56x128, .f32⟩
  | 22 => ⟨S16x56x56x128, .f32⟩
  | 23 => ⟨S16x56x56x64, .f32⟩
  | 24 => ⟨S128x64x1x1, .f32⟩
  | 25 => ⟨S128x64, .f32⟩
  | 26 => ⟨S16x56x56x128, .f32⟩
  | 27 => ⟨S16x56x56x128, .f32⟩
  | 28 => ⟨S16x56x56x64, .f32⟩
  | 29 => ⟨S128x64x1x1, .f32⟩
  | 30 => ⟨S128x64, .f32⟩
  | 31 => ⟨S16x56x56x128, .f32⟩
  | 32 => ⟨S16x56x56x128, .f32⟩
  | 33 => ⟨S16x56x56x64, .f32⟩
  | 34 => ⟨S128x64x1x1, .f32⟩
  | 35 => ⟨S128x64, .f32⟩
  | 36 => ⟨S16x56x56x128, .f32⟩
  | 37 => ⟨S16x56x56x128, .f32⟩
  | 38 => ⟨S16x56x56x64, .f32⟩
  | 39 => ⟨S128x64x1x1, .f32⟩
  | 40 => ⟨S128x64, .f32⟩
  | 41 => ⟨S16x56x56x128, .f32⟩
  | 42 => ⟨S16x56x56x128, .f32⟩
  | 43 => ⟨S16x56x56x64, .f32⟩
  | 44 => ⟨S128x64x1x1, .f32⟩
  | 45 => ⟨S128x64, .f32⟩
  | 46 => ⟨S16x56x56x128, .f32⟩
  | 47 => ⟨S16x56x56x128, .f32⟩
  | 48 => ⟨S16x56x56x64, .f32⟩
  | 49 => ⟨S128x64x1x1, .f32⟩
  | 50 => ⟨S128x64, .f32⟩
  | 51 => ⟨S16x56x56x128, .f32⟩
  | 52 => ⟨S16x56x56x128, .f32⟩
  | 53 => ⟨S1x1x1x128, .f32⟩
  | 54 => ⟨S16x56x56x128, .f32⟩
  | 55 => ⟨S16x56x56x128, .f32⟩
  | 56 => ⟨S_, .f32⟩
  | 57 => ⟨S16x56x56x128, .f32⟩
  | 58 => ⟨S16x56x56x128, .f32⟩
  | 59 => ⟨S_, .i32⟩
  | 60 => ⟨S_, .f32⟩
  | 61 => ⟨S16x58x58x128, .f32⟩
  | 62 => ⟨S16x28x28x128, .f32⟩
  | 63 => ⟨S256x128x1x1, .f32⟩
  | 64 => ⟨S256x128, .f32⟩
  | 65 => ⟨S16x28x28x256, .f32⟩
  | 66 => ⟨S16x28x28x128, .f32⟩
  | 67 => ⟨S256x128x1x1, .f32⟩
  | 68 => ⟨S256x128, .f32⟩
  | 69 => ⟨S16x28x28x256, .f32⟩
  | 70 => ⟨S16x28x28x256, .f32⟩
  | 71 => ⟨S16x28x28x128, .f32⟩
  | 72 => ⟨S256x128x1x1, .f32⟩
  | 73 => ⟨S256x128, .f32⟩
  | 74 => ⟨S16x28x28x256, .f32⟩
  | 75 => ⟨S16x28x28x256, .f32⟩
  | 76 => ⟨S16x28x28x128, .f32⟩
  | 77 => ⟨S256x128x1x1, .f32⟩
  | 78 => ⟨S256x128, .f32⟩
  | 79 => ⟨S16x28x28x256, .f32⟩
  | 80 => ⟨S16x28x28x256, .f32⟩
  | 81 => ⟨S16x28x28x128, .f32⟩
  | 82 => ⟨S256x128x1x1, .f32⟩
  | 83 => ⟨S256x128, .f32⟩
  | 84 => ⟨S16x28x28x256, .f32⟩
  | 85 => ⟨S16x28x28x256, .f32⟩
  | 86 => ⟨S16x28x28x128, .f32⟩
  | 87 => ⟨S256x128x1x1, .f32⟩
  | 88 => ⟨S256x128, .f32⟩
  | 89 => ⟨S16x28x28x256, .f32⟩
  | 90 => ⟨S16x28x28x256, .f32⟩
  | 91 => ⟨S16x28x28x128, .f32⟩
  | 92 => ⟨S256x128x1x1, .f32⟩
  | 93 => ⟨S256x128, .f32⟩
  | 94 => ⟨S16x28x28x256, .f32⟩
  | 95 => ⟨S16x28x28x256, .f32⟩
  | 96 => ⟨S16x28x28x128, .f32⟩
  | 97 => ⟨S256x128x1x1, .f32⟩
  | 98 => ⟨S256x128, .f32⟩
  | 99 => ⟨S16x28x28x256, .f32⟩
  | 100 => ⟨S16x28x28x256, .f32⟩
  | 101 => ⟨S16x28x28x128, .f32⟩
  | 102 => ⟨S256x128x1x1, .f32⟩
  | 103 => ⟨S256x128, .f32⟩
  | 104 => ⟨S16x28x28x256, .f32⟩
  | 105 => ⟨S16x28x28x256, .f32⟩
  | 106 => ⟨S16x28x28x128, .f32⟩
  | 107 => ⟨S256x128x1x1, .f32⟩
  | 108 => ⟨S256x128, .f32⟩
  | 109 => ⟨S16x28x28x256, .f32⟩
  | 110 => ⟨S16x28x28x256, .f32⟩
  | 111 => ⟨S16x28x28x128, .f32⟩
  | 112 => ⟨S256x128x1x1, .f32⟩
  | 113 => ⟨S256x128, .f32⟩
  | 114 => ⟨S16x28x28x256, .f32⟩
  | 115 => ⟨S16x28x28x256, .f32⟩
  | 116 => ⟨S16x28x28x128, .f32⟩
  | 117 => ⟨S256x128x1x1, .f32⟩
  | 118 => ⟨S256x128, .f32⟩
  | 119 => ⟨S16x28x28x256, .f32⟩
  | 120 => ⟨S16x28x28x256, .f32⟩
  | 121 => ⟨S16x28x28x128, .f32⟩
  | 122 => ⟨S256x128x1x1, .f32⟩
  | 123 => ⟨S256x128, .f32⟩
  | 124 => ⟨S16x28x28x256, .f32⟩
  | 125 => ⟨S16x28x28x256, .f32⟩
  | 126 => ⟨S16x28x28x128, .f32⟩
  | 127 => ⟨S256x128x1x1, .f32⟩
  | _ => ⟨S16x3x224x224, .f32⟩

abbrev hbmTy0_2 (i : Nat) : BufTy := match i % 128 with
  | 0 => ⟨S256x128, .f32⟩
  | 1 => ⟨S16x28x28x256, .f32⟩
  | 2 => ⟨S16x28x28x256, .f32⟩
  | 3 => ⟨S16x28x28x128, .f32⟩
  | 4 => ⟨S256x128x1x1, .f32⟩
  | 5 => ⟨S256x128, .f32⟩
  | 6 => ⟨S16x28x28x256, .f32⟩
  | 7 => ⟨S16x28x28x256, .f32⟩
  | 8 => ⟨S16x28x28x128, .f32⟩
  | 9 => ⟨S256x128x1x1, .f32⟩
  | 10 => ⟨S256x128, .f32⟩
  | 11 => ⟨S16x28x28x256, .f32⟩
  | 12 => ⟨S16x28x28x256, .f32⟩
  | 13 => ⟨S1x1x1x256, .f32⟩
  | 14 => ⟨S16x28x28x256, .f32⟩
  | 15 => ⟨S16x28x28x256, .f32⟩
  | 16 => ⟨S_, .f32⟩
  | 17 => ⟨S16x28x28x256, .f32⟩
  | 18 => ⟨S16x28x28x256, .f32⟩
  | 19 => ⟨S_, .i32⟩
  | 20 => ⟨S_, .f32⟩
  | 21 => ⟨S16x30x30x256, .f32⟩
  | 22 => ⟨S16x14x14x256, .f32⟩
  | 23 => ⟨S256x256x1x1, .f32⟩
  | 24 => ⟨S256x256, .f32⟩
  | 25 => ⟨S16x14x14x256, .f32⟩
  | 26 => ⟨S16x14x14x256, .f32⟩
  | 27 => ⟨S256x256x1x1, .f32⟩
  | 28 => ⟨S256x256, .f32⟩
  | 29 => ⟨S16x14x14x256, .f32⟩
  | 30 => ⟨S16x14x14x256, .f32⟩
  | 31 => ⟨S16x14x14x256, .f32⟩
  | 32 => ⟨S256x256x1x1, .f32⟩
  | 33 => ⟨S256x256, .f32⟩
  | 34 => ⟨S16x14x14x256, .f32⟩
  | 35 => ⟨S16x14x14x256, .f32⟩
  | 36 => ⟨S16x14x14x256, .f32⟩
  | 37 => ⟨S256x256x1x1, .f32⟩
  | 38 => ⟨S256x256, .f32⟩
  | 39 => ⟨S16x14x14x256, .f32⟩
  | 40 => ⟨S16x14x14x256, .f32⟩
  | 41 => ⟨S16x14x14x256, .f32⟩
  | 42 => ⟨S256x256x1x1, .f32⟩
  | 43 => ⟨S256x256, .f32⟩
  | 44 => ⟨S16x14x14x256, .f32⟩
  | 45 => ⟨S16x14x14x256, .f32⟩
  | 46 => ⟨S16x14x14x256, .f32⟩
  | 47 => ⟨S256x256x1x1, .f32⟩
  | 48 => ⟨S256x256, .f32⟩
  | 49 => ⟨S16x14x14x256, .f32⟩
  | 50 => ⟨S16x14x14x256, .f32⟩
  | 51 => ⟨S16x14x14x256, .f32⟩
  | 52 => ⟨S256x256x1x1, .f32⟩
  | 53 => ⟨S256x256, .f32⟩
  | 54 => ⟨S16x14x14x256, .f32⟩
  | 55 => ⟨S16x14x14x256, .f32⟩
  | 56 => ⟨S16x14x14x256, .f32⟩
  | 57 => ⟨S256x256x1x1, .f32⟩
  | 58 => ⟨S256x256, .f32⟩
  | 59 => ⟨S16x14x14x256, .f32⟩
  | 60 => ⟨S16x14x14x256, .f32⟩
  | 61 => ⟨S16x14x14x256, .f32⟩
  | 62 => ⟨S256x256x1x1, .f32⟩
  | 63 => ⟨S256x256, .f32⟩
  | 64 => ⟨S16x14x14x256, .f32⟩
  | 65 => ⟨S16x14x14x256, .f32⟩
  | 66 => ⟨S16x14x14x256, .f32⟩
  | 67 => ⟨S256x256x1x1, .f32⟩
  | 68 => ⟨S256x256, .f32⟩
  | 69 => ⟨S16x14x14x256, .f32⟩
  | 70 => ⟨S16x14x14x256, .f32⟩
  | 71 => ⟨S16x14x14x256, .f32⟩
  | 72 => ⟨S256x256x1x1, .f32⟩
  | 73 => ⟨S256x256, .f32⟩
  | 74 => ⟨S16x14x14x256, .f32⟩
  | 75 => ⟨S16x14x14x256, .f32⟩
  | 76 => ⟨S16x14x14x256, .f32⟩
  | 77 => ⟨S256x256x1x1, .f32⟩
  | 78 => ⟨S256x256, .f32⟩
  | 79 => ⟨S16x14x14x256, .f32⟩
  | 80 => ⟨S16x14x14x256, .f32⟩
  | 81 => ⟨S16x14x14x256, .f32⟩
  | 82 => ⟨S256x256x1x1, .f32⟩
  | 83 => ⟨S256x256, .f32⟩
  | 84 => ⟨S16x14x14x256, .f32⟩
  | 85 => ⟨S16x14x14x256, .f32⟩
  | 86 => ⟨S16x14x14x256, .f32⟩
  | 87 => ⟨S256x256x1x1, .f32⟩
  | 88 => ⟨S256x256, .f32⟩
  | 89 => ⟨S16x14x14x256, .f32⟩
  | 90 => ⟨S16x14x14x256, .f32⟩
  | 91 => ⟨S16x14x14x256, .f32⟩
  | 92 => ⟨S256x256x1x1, .f32⟩
  | 93 => ⟨S256x256, .f32⟩
  | 94 => ⟨S16x14x14x256, .f32⟩
  | 95 => ⟨S16x14x14x256, .f32⟩
  | 96 => ⟨S16x14x14x256, .f32⟩
  | 97 => ⟨S256x256x1x1, .f32⟩
  | 98 => ⟨S256x256, .f32⟩
  | 99 => ⟨S16x14x14x256, .f32⟩
  | 100 => ⟨S16x14x14x256, .f32⟩
  | 101 => ⟨S1x1x1x256, .f32⟩
  | 102 => ⟨S16x14x14x256, .f32⟩
  | 103 => ⟨S16x14x14x256, .f32⟩
  | 104 => ⟨S16x196x256, .f32⟩
  | 105 => ⟨S1x256x256, .f32⟩
  | 106 => ⟨S256x256, .f32⟩
  | 107 => ⟨S16x196x256, .f32⟩
  | 108 => ⟨S_, .f32⟩
  | 109 => ⟨S16x196, .f32⟩
  | 110 => ⟨S16x196x1, .f32⟩
  | 111 => ⟨S256x256, .f32⟩
  | 112 => ⟨S16x196x256, .f32⟩
  | 113 => ⟨S_, .f32⟩
  | 114 => ⟨S16x196x256, .f32⟩
  | 115 => ⟨S16x196x256, .f32⟩
  | 116 => ⟨S16x196x256, .f32⟩
  | 117 => ⟨S16x196x256, .f32⟩
  | 118 => ⟨S256x256, .f32⟩
  | 119 => ⟨S_, .f32⟩
  | 120 => ⟨S256, .f32⟩
  | 121 => ⟨S1x1x256, .f32⟩
  | 122 => ⟨S16x196x256, .f32⟩
  | 123 => ⟨S16x196x256, .f32⟩
  | 124 => ⟨S16x196x256, .i32⟩
  | 125 => ⟨S_, .f32⟩
  | 126 => ⟨S_, .i32⟩
  | 127 => ⟨S16x196, .f32⟩
  | _ => ⟨S16x3x224x224, .f32⟩

abbrev hbmTy0_3 (i : Nat) : BufTy := match i % 128 with
  | 0 => ⟨S16x196, .i32⟩
  | 1 => ⟨S_, .i32⟩
  | 2 => ⟨S16x196, .i32⟩
  | 3 => ⟨S16x196, .i1⟩
  | 4 => ⟨S_, .i32⟩
  | 5 => ⟨S16x196, .i32⟩
  | 6 => ⟨S16x196, .i32⟩
  | 7 => ⟨S16x196, .i32⟩
  | 8 => ⟨S16x196x1, .i32⟩
  | 9 => ⟨S16x196x256, .f32⟩
  | 10 => ⟨S16x196x256, .f32⟩
  | 11 => ⟨S1x256x256, .f32⟩
  | 12 => ⟨S256x256, .f32⟩
  | 13 => ⟨S16x196x256, .f32⟩
  | 14 => ⟨S_, .f32⟩
  | 15 => ⟨S16x196, .f32⟩
  | 16 => ⟨S16x196x1, .f32⟩
  | 17 => ⟨S256x256, .f32⟩
  | 18 => ⟨S16x196x256, .f32⟩
  | 19 => ⟨S_, .f32⟩
  | 20 => ⟨S16x196x256, .f32⟩
  | 21 => ⟨S16x196x256, .f32⟩
  | 22 => ⟨S16x196x256, .f32⟩
  | 23 => ⟨S16x196x256, .f32⟩
  | 24 => ⟨S256x256, .f32⟩
  | 25 => ⟨S_, .f32⟩
  | 26 => ⟨S256, .f32⟩
  | 27 => ⟨S1x1x256, .f32⟩
  | 28 => ⟨S16x196x256, .f32⟩
  | 29 => ⟨S16x196x256, .f32⟩
  | 30 => ⟨S16x196x256, .i32⟩
  | 31 => ⟨S_, .f32⟩
  | 32 => ⟨S_, .i32⟩
  | 33 => ⟨S16x196, .f32⟩
  | 34 => ⟨S16x196, .i32⟩
  | 35 => ⟨S_, .i32⟩
  | 36 => ⟨S16x196, .i32⟩
  | 37 => ⟨S16x196, .i1⟩
  | 38 => ⟨S_, .i32⟩
  | 39 => ⟨S16x196, .i32⟩
  | 40 => ⟨S16x196, .i32⟩
  | 41 => ⟨S16x196, .i32⟩
  | 42 => ⟨S16x196x1, .i32⟩
  | 43 => ⟨S16x196x256, .f32⟩
  | 44 => ⟨S16x196x256, .f32⟩
  | 45 => ⟨S1x256x256, .f32⟩
  | 46 => ⟨S256x256, .f32⟩
  | 47 => ⟨S16x196x256, .f32⟩
  | 48 => ⟨S_, .f32⟩
  | 49 => ⟨S16x196, .f32⟩
  | 50 => ⟨S16x196x1, .f32⟩
  | 51 => ⟨S256x256, .f32⟩
  | 52 => ⟨S16x196x256, .f32⟩
  | 53 => ⟨S_, .f32⟩
  | 54 => ⟨S16x196x256, .f32⟩
  | 55 => ⟨S16x196x256, .f32⟩
  | 56 => ⟨S16x196x256, .f32⟩
  | 57 => ⟨S16x196x256, .f32⟩
  | 58 => ⟨S256x256, .f32⟩
  | 59 => ⟨S_, .f32⟩
  | 60 => ⟨S256, .f32⟩
  | 61 => ⟨S1x1x256, .f32⟩
  | 62 => ⟨S16x196x256, .f32⟩
  | 63 => ⟨S16x196x256, .f32⟩
  | 64 => ⟨S16x196x256, .i32⟩
  | 65 => ⟨S_, .f32⟩
  | 66 => ⟨S_, .i32⟩
  | 67 => ⟨S16x196, .f32⟩
  | 68 => ⟨S16x196, .i32⟩
  | 69 => ⟨S_, .i32⟩
  | 70 => ⟨S16x196, .i32⟩
  | 71 => ⟨S16x196, .i1⟩
  | 72 => ⟨S_, .i32⟩
  | 73 => ⟨S16x196, .i32⟩
  | 74 => ⟨S16x196, .i32⟩
  | 75 => ⟨S16x196, .i32⟩
  | 76 => ⟨S16x196x1, .i32⟩
  | 77 => ⟨S16x196x256, .f32⟩
  | 78 => ⟨S16x196x256, .f32⟩
  | 79 => ⟨S16x196x1, .i32⟩
  | 80 => ⟨S16x196x1, .i32⟩
  | 81 => ⟨S16x196x1, .i32⟩
  | 82 => ⟨S16x196x3, .i32⟩
  | _ => ⟨S16x3x224x224, .f32⟩

abbrev hbmTy (i : Nat) : BufTy := match i / 128 with
  | 0 => hbmTy0_0 i
  | 1 => hbmTy0_1 i
  | 2 => hbmTy0_2 i
  | 3 => hbmTy0_3 i
  | _ => ⟨S16x3x224x224, .f32⟩

abbrev bufTy : (tb : Table) → Fin (tcTables nBuf tb) → BufTy
  | .hbm, ⟨i, _⟩ => hbmTy i
  | _, _ => ⟨S16x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_call1_cst : Ref sig .tc := ⟨.hbm, 96, rfl⟩
abbrev main_call1_v0 : Ref sig .tc := ⟨.hbm, 97, rfl⟩
abbrev main_v84 : Ref sig .tc := ⟨.hbm, 98, rfl⟩
abbrev main_c_0 : Ref sig .tc := ⟨.hbm, 99, rfl⟩
abbrev main_call2_v0 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_call3_cst : Ref sig .tc := ⟨.hbm, 184, rfl⟩
abbrev main_call3_v0 : Ref sig .tc := ⟨.hbm, 185, rfl⟩
abbrev main_v168 : Ref sig .tc := ⟨.hbm, 186, rfl⟩
abbrev main_c_1 : Ref sig .tc := ⟨.hbm, 187, rfl⟩
abbrev main_call4_v0 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_v228 : Ref sig .tc := ⟨.hbm, 248, rfl⟩
abbrev main_v229 : Ref sig .tc := ⟨.hbm, 249, rfl⟩
abbrev main_v230 : Ref sig .tc := ⟨.hbm, 250, rfl⟩
abbrev main_v231 : Ref sig .tc := ⟨.hbm, 251, rfl⟩
abbrev main_v232 : Ref sig .tc := ⟨.hbm, 252, rfl⟩
abbrev main_v233 : Ref sig .tc := ⟨.hbm, 253, rfl⟩
abbrev main_v234 : Ref sig .tc := ⟨.hbm, 254, rfl⟩
abbrev main_v235 : Ref sig .tc := ⟨.hbm, 255, rfl⟩
abbrev main_v236 : Ref sig .tc := ⟨.hbm, 256, rfl⟩
abbrev main_v237 : Ref sig .tc := ⟨.hbm, 257, rfl⟩
abbrev main_v238 : Ref sig .tc := ⟨.hbm, 258, rfl⟩
abbrev main_v239 : Ref sig .tc := ⟨.hbm, 259, rfl⟩
abbrev main_v240 : Ref sig .tc := ⟨.hbm, 260, rfl⟩
abbrev main_v241 : Ref sig .tc := ⟨.hbm, 261, rfl⟩
abbrev main_v242 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_v251 : Ref sig .tc := ⟨.hbm, 271, rfl⟩
abbrev main_call5_cst : Ref sig .tc := ⟨.hbm, 272, rfl⟩
abbrev main_call5_v0 : Ref sig .tc := ⟨.hbm, 273, rfl⟩
abbrev main_v252 : Ref sig .tc := ⟨.hbm, 274, rfl⟩
abbrev main_c_2 : Ref sig .tc := ⟨.hbm, 275, rfl⟩
abbrev main_call6_v0 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_v280 : Ref sig .tc := ⟨.hbm, 304, rfl⟩
abbrev main_v281 : Ref sig .tc := ⟨.hbm, 305, rfl⟩
abbrev main_v282 : Ref sig .tc := ⟨.hbm, 306, rfl⟩
abbrev main_v283 : Ref sig .tc := ⟨.hbm, 307, rfl⟩
abbrev main_v284 : Ref sig .tc := ⟨.hbm, 308, rfl⟩
abbrev main_v285 : Ref sig .tc := ⟨.hbm, 309, rfl⟩
abbrev main_v286 : Ref sig .tc := ⟨.hbm, 310, rfl⟩
abbrev main_v287 : Ref sig .tc := ⟨.hbm, 311, rfl⟩
abbrev main_v288 : Ref sig .tc := ⟨.hbm, 312, rfl⟩
abbrev main_v289 : Ref sig .tc := ⟨.hbm, 313, rfl⟩
abbrev main_v290 : Ref sig .tc := ⟨.hbm, 314, rfl⟩
abbrev main_v291 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_v299 : Ref sig .tc := ⟨.hbm, 323, rfl⟩
abbrev main_v300 : Ref sig .tc := ⟨.hbm, 324, rfl⟩
abbrev main_v301 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_v305 : Ref sig .tc := ⟨.hbm, 329, rfl⟩
abbrev main_v306 : Ref sig .tc := ⟨.hbm, 330, rfl⟩
abbrev main_v307 : Ref sig .tc := ⟨.hbm, 331, rfl⟩
abbrev main_v308 : Ref sig .tc := ⟨.hbm, 332, rfl⟩
abbrev main_v309 : Ref sig .tc := ⟨.hbm, 333, rfl⟩
abbrev main_v310 : Ref sig .tc := ⟨.hbm, 334, rfl⟩
abbrev main_v311 : Ref sig .tc := ⟨.hbm, 335, rfl⟩
abbrev main_v312 : Ref sig .tc := ⟨.hbm, 336, rfl⟩
abbrev main_v313 : Ref sig .tc := ⟨.hbm, 337, rfl⟩
abbrev main_v314 : Ref sig .tc := ⟨.hbm, 338, rfl⟩
abbrev main_v315 : Ref sig .tc := ⟨.hbm, 339, rfl⟩
abbrev main_v316 : Ref sig .tc := ⟨.hbm, 340, rfl⟩
abbrev main_v317 : Ref sig .tc := ⟨.hbm, 341, rfl⟩
abbrev main_v318 : Ref sig .tc := ⟨.hbm, 342, rfl⟩
abbrev main_v319 : Ref sig .tc := ⟨.hbm, 343, rfl⟩
abbrev main_v320 : Ref sig .tc := ⟨.hbm, 344, rfl⟩
abbrev main_v321 : Ref sig .tc := ⟨.hbm, 345, rfl⟩
abbrev main_v322 : Ref sig .tc := ⟨.hbm, 346, rfl⟩
abbrev main_v323 : Ref sig .tc := ⟨.hbm, 347, rfl⟩
abbrev main_v324 : Ref sig .tc := ⟨.hbm, 348, rfl⟩
abbrev main_v325 : Ref sig .tc := ⟨.hbm, 349, rfl⟩
abbrev main_v326 : Ref sig .tc := ⟨.hbm, 350, rfl⟩
abbrev main_v327 : Ref sig .tc := ⟨.hbm, 351, rfl⟩
abbrev main_v328 : Ref sig .tc := ⟨.hbm, 352, rfl⟩
abbrev main_v329 : Ref sig .tc := ⟨.hbm, 353, rfl⟩
abbrev main_v330 : Ref sig .tc := ⟨.hbm, 354, rfl⟩
abbrev main_v331 : Ref sig .tc := ⟨.hbm, 355, rfl⟩
abbrev main_v332 : Ref sig .tc := ⟨.hbm, 356, rfl⟩
abbrev main_v333 : Ref sig .tc := ⟨.hbm, 357, rfl⟩
abbrev main_v334 : Ref sig .tc := ⟨.hbm, 358, rfl⟩
abbrev main_v335 : Ref sig .tc := ⟨.hbm, 359, rfl⟩
abbrev main_v336 : Ref sig .tc := ⟨.hbm, 360, rfl⟩
abbrev main_v337 : Ref sig .tc := ⟨.hbm, 361, rfl⟩
abbrev main_v338 : Ref sig .tc := ⟨.hbm, 362, rfl⟩
abbrev main_v339 : Ref sig .tc := ⟨.hbm, 363, rfl⟩
abbrev main_cst : Ref sig .tc := ⟨.hbm, 364, rfl⟩
abbrev main_v340 : Ref sig .tc := ⟨.hbm, 365, rfl⟩
abbrev main_v341 : Ref sig .tc := ⟨.hbm, 366, rfl⟩
abbrev main_v342 : Ref sig .tc := ⟨.hbm, 367, rfl⟩
abbrev main_v343 : Ref sig .tc := ⟨.hbm, 368, rfl⟩
abbrev main_cst_3 : Ref sig .tc := ⟨.hbm, 369, rfl⟩
abbrev main_v344 : Ref sig .tc := ⟨.hbm, 370, rfl⟩
abbrev main_v345 : Ref sig .tc := ⟨.hbm, 371, rfl⟩
abbrev main_v346 : Ref sig .tc := ⟨.hbm, 372, rfl⟩
abbrev main_v347 : Ref sig .tc := ⟨.hbm, 373, rfl⟩
abbrev main_v348 : Ref sig .tc := ⟨.hbm, 374, rfl⟩
abbrev main_cst_4 : Ref sig .tc := ⟨.hbm, 375, rfl⟩
abbrev main_v349 : Ref sig .tc := ⟨.hbm, 376, rfl⟩
abbrev main_v350 : Ref sig .tc := ⟨.hbm, 377, rfl⟩
abbrev main_v351 : Ref sig .tc := ⟨.hbm, 378, rfl⟩
abbrev main_v352 : Ref sig .tc := ⟨.hbm, 379, rfl⟩
abbrev main_call7_v0 : Ref sig .tc := ⟨.hbm, 380, rfl⟩
abbrev main_call7_cst : Ref sig .tc := ⟨.hbm, 381, rfl⟩
abbrev main_call7_c : Ref sig .tc := ⟨.hbm, 382, rfl⟩
abbrev main_call7_v1_0 : Ref sig .tc := ⟨.hbm, 383, rfl⟩
abbrev main_v353 : Ref sig .tc := ⟨.hbm, 384, rfl⟩
abbrev main_c_5 : Ref sig .tc := ⟨.hbm, 385, rfl⟩
abbrev main_v354 : Ref sig .tc := ⟨.hbm, 386, rfl⟩
abbrev main_v355 : Ref sig .tc := ⟨.hbm, 387, rfl⟩
abbrev main_c_6 : Ref sig .tc := ⟨.hbm, 388, rfl⟩
abbrev main_v356 : Ref sig .tc := ⟨.hbm, 389, rfl⟩
abbrev main_v357 : Ref sig .tc := ⟨.hbm, 390, rfl⟩
abbrev main_v358 : Ref sig .tc := ⟨.hbm, 391, rfl⟩
abbrev main_v359 : Ref sig .tc := ⟨.hbm, 392, rfl⟩
abbrev main_v360 : Ref sig .tc := ⟨.hbm, 393, rfl⟩
abbrev main_v361 : Ref sig .tc := ⟨.hbm, 394, rfl⟩
abbrev main_v362 : Ref sig .tc := ⟨.hbm, 395, rfl⟩
abbrev main_v363 : Ref sig .tc := ⟨.hbm, 396, rfl⟩
abbrev main_v364 : Ref sig .tc := ⟨.hbm, 397, rfl⟩
abbrev main_cst_7 : Ref sig .tc := ⟨.hbm, 398, rfl⟩
abbrev main_v365 : Ref sig .tc := ⟨.hbm, 399, rfl⟩
abbrev main_v366 : Ref sig .tc := ⟨.hbm, 400, rfl⟩
abbrev main_v367 : Ref sig .tc := ⟨.hbm, 401, rfl⟩
abbrev main_v368 : Ref sig .tc := ⟨.hbm, 402, rfl⟩
abbrev main_cst_8 : Ref sig .tc := ⟨.hbm, 403, rfl⟩
abbrev main_v369 : Ref sig .tc := ⟨.hbm, 404, rfl⟩
abbrev main_v370 : Ref sig .tc := ⟨.hbm, 405, rfl⟩
abbrev main_v371 : Ref sig .tc := ⟨.hbm, 406, rfl⟩
abbrev main_v372 : Ref sig .tc := ⟨.hbm, 407, rfl⟩
abbrev main_v373 : Ref sig .tc := ⟨.hbm, 408, rfl⟩
abbrev main_cst_9 : Ref sig .tc := ⟨.hbm, 409, rfl⟩
abbrev main_v374 : Ref sig .tc := ⟨.hbm, 410, rfl⟩
abbrev main_v375 : Ref sig .tc := ⟨.hbm, 411, rfl⟩
abbrev main_v376 : Ref sig .tc := ⟨.hbm, 412, rfl⟩
abbrev main_v377 : Ref sig .tc := ⟨.hbm, 413, rfl⟩
abbrev main_call8_v0 : Ref sig .tc := ⟨.hbm, 414, rfl⟩
abbrev main_call8_cst : Ref sig .tc := ⟨.hbm, 415, rfl⟩
abbrev main_call8_c : Ref sig .tc := ⟨.hbm, 416, rfl⟩
abbrev main_call8_v1_0 : Ref sig .tc := ⟨.hbm, 417, rfl⟩
abbrev main_v378 : Ref sig .tc := ⟨.hbm, 418, rfl⟩
abbrev main_c_10 : Ref sig .tc := ⟨.hbm, 419, rfl⟩
abbrev main_v379 : Ref sig .tc := ⟨.hbm, 420, rfl⟩
abbrev main_v380 : Ref sig .tc := ⟨.hbm, 421, rfl⟩
abbrev main_c_11 : Ref sig .tc := ⟨.hbm, 422, rfl⟩
abbrev main_v381 : Ref sig .tc := ⟨.hbm, 423, rfl⟩
abbrev main_v382 : Ref sig .tc := ⟨.hbm, 424, rfl⟩
abbrev main_v383 : Ref sig .tc := ⟨.hbm, 425, rfl⟩
abbrev main_v384 : Ref sig .tc := ⟨.hbm, 426, rfl⟩
abbrev main_v385 : Ref sig .tc := ⟨.hbm, 427, rfl⟩
abbrev main_v386 : Ref sig .tc := ⟨.hbm, 428, rfl⟩
abbrev main_v387 : Ref sig .tc := ⟨.hbm, 429, rfl⟩
abbrev main_v388 : Ref sig .tc := ⟨.hbm, 430, rfl⟩
abbrev main_v389 : Ref sig .tc := ⟨.hbm, 431, rfl⟩
abbrev main_cst_12 : Ref sig .tc := ⟨.hbm, 432, rfl⟩
abbrev main_v390 : Ref sig .tc := ⟨.hbm, 433, rfl⟩
abbrev main_v391 : Ref sig .tc := ⟨.hbm, 434, rfl⟩
abbrev main_v392 : Ref sig .tc := ⟨.hbm, 435, rfl⟩
abbrev main_v393 : Ref sig .tc := ⟨.hbm, 436, rfl⟩
abbrev main_cst_13 : Ref sig .tc := ⟨.hbm, 437, rfl⟩
abbrev main_v394 : Ref sig .tc := ⟨.hbm, 438, rfl⟩
abbrev main_v395 : Ref sig .tc := ⟨.hbm, 439, rfl⟩
abbrev main_v396 : Ref sig .tc := ⟨.hbm, 440, rfl⟩
abbrev main_v397 : Ref sig .tc := ⟨.hbm, 441, rfl⟩
abbrev main_v398 : Ref sig .tc := ⟨.hbm, 442, rfl⟩
abbrev main_cst_14 : Ref sig .tc := ⟨.hbm, 443, rfl⟩
abbrev main_v399 : Ref sig .tc := ⟨.hbm, 444, rfl⟩
abbrev main_v400 : Ref sig .tc := ⟨.hbm, 445, rfl⟩
abbrev main_v401 : Ref sig .tc := ⟨.hbm, 446, rfl⟩
abbrev main_v402 : Ref sig .tc := ⟨.hbm, 447, rfl⟩
abbrev main_call9_v0 : Ref sig .tc := ⟨.hbm, 448, rfl⟩
abbrev main_call9_cst : Ref sig .tc := ⟨.hbm, 449, rfl⟩
abbrev main_call9_c : Ref sig .tc := ⟨.hbm, 450, rfl⟩
abbrev main_call9_v1_0 : Ref sig .tc := ⟨.hbm, 451, rfl⟩
abbrev main_v403 : Ref sig .tc := ⟨.hbm, 452, rfl⟩
abbrev main_c_15 : Ref sig .tc := ⟨.hbm, 453, rfl⟩
abbrev main_v404 : Ref sig .tc := ⟨.hbm, 454, rfl⟩
abbrev main_v405 : Ref sig .tc := ⟨.hbm, 455, rfl⟩
abbrev main_c_16 : Ref sig .tc := ⟨.hbm, 456, rfl⟩
abbrev main_v406 : Ref sig .tc := ⟨.hbm, 457, rfl⟩
abbrev main_v407 : Ref sig .tc := ⟨.hbm, 458, rfl⟩
abbrev main_v408 : Ref sig .tc := ⟨.hbm, 459, rfl⟩
abbrev main_v409 : Ref sig .tc := ⟨.hbm, 460, rfl⟩
abbrev main_v410 : Ref sig .tc := ⟨.hbm, 461, rfl⟩
abbrev main_v411 : Ref sig .tc := ⟨.hbm, 462, rfl⟩
abbrev main_v412 : Ref sig .tc := ⟨.hbm, 463, rfl⟩
abbrev main_v413 : Ref sig .tc := ⟨.hbm, 464, rfl⟩
abbrev main_v414 : Ref sig .tc := ⟨.hbm, 465, rfl⟩
abbrev main_v415 : Ref sig .tc := ⟨.hbm, 466, rfl⟩

abbrev nD : Nat := 1
abbrev τ : Topo := Topo.v7x

variable {F : FTy → Type} [FloatOps F]
-- ==== Proof.Spec.lean ====
/-
  The mathematics of the problem over the extended reals, free of both programs: the strided 4×4 convolution of a
  batch of images with zero padding, the rectifier, and one step of residual vector quantization.
-/
module

public import Idealize.ShloMosaic.Lib.Pointwise

@[expose] public section

noncomputable section

namespace Cert.Spec

open Idealize.ShloMosaic

/-- A batch of `B` images of `H` rows, `W` columns and `C` channels. -/
abbrev Img (B H W C : ℕ) : Type := (⟨4, ![B, H, W, C]⟩ : Shape).Idx → EReal

/-- The image read at row `r` and column `s` of its zero-padded form, which has one more row above and one more column
    on the left: pixel `(r - 1, s - 1)` where there is one, zero elsewhere. -/
def padRead {B H W C : ℕ} (y : Img B H W C) (b : Fin B) (r s : ℕ) (c : Fin C) : EReal :=
  if h : (1 ≤ r ∧ r - 1 < H) ∧ (1 ≤ s ∧ s - 1 < W) then y (ix4 b ⟨r - 1, h.1.2⟩ ⟨s - 1, h.2.2⟩ c) else 0

/-- A read inside the image is the pixel. -/
theorem padRead_of {B H W C : ℕ} (y : Img B H W C) (b : Fin B) (r s : ℕ) (c : Fin C) (h : Fin H) (w : Fin W)
    (hr : r = h + 1) (hs : s = w + 1) : padRead y b r s c = y (ix4 b h w c) := by
  subst hr hs
  have hc : (1 ≤ (h : ℕ) + 1 ∧ (h : ℕ) + 1 - 1 < H) ∧ (1 ≤ (w : ℕ) + 1 ∧ (w : ℕ) + 1 - 1 < W) := by
    have := h.isLt; have := w.isLt; omega
  unfold padRead
  rw [dif_pos hc]
  rfl

/-- A read outside the image is zero. -/
theorem padRead_out {B H W C : ℕ} (y : Img B H W C) (b : Fin B) (r s : ℕ) (c : Fin C)
    (h : ¬((1 ≤ r ∧ r - 1 < H) ∧ (1 ≤ s ∧ s - 1 < W))) : padRead y b r s c = 0 := by
  unfold padRead
  rw [dif_neg h]

/-- One term of the convolution: the tap `(kh, kw)` at output pixel `(p, q)`, summed over the input channels. -/
def tap {B H W C O : ℕ} (y : Img B H W C) (w : Img O C 4 4) (b : Fin B) (p q : ℕ) (o : Fin O) (kh kw : Fin 4) : EReal :=
  ∑ c : Fin C, padRead y b (2 * p + kh) (2 * q + kw) c * w (ix4 o c kh kw)

/-- The convolution of stride two with its bias: the sixteen taps summed, and the bias of the output channel added. -/
def conv {B H W C O : ℕ} (P Q : ℕ) (y : Img B H W C) (w : Img O C 4 4) (bias : (⟨1, ![O]⟩ : Shape).Idx → EReal) : Img B P Q O :=
  fun j => (∑ kh : Fin 4, ∑ kw : Fin 4, tap y w (j 0) (j 1 : Fin P) (j 2 : Fin Q) (j 3) kh kw) + bias (ix1 (j 3))

/-- The rectifier, pixel by pixel. -/
def relu {B H W C : ℕ} (y : Img B H W C) : Img B H W C := fun j => max (y j) 0

/-- The squared distance of a residual row to each code, as the problem spells it: `|r|² - 2 r·c + |c|²`. -/
def dist (two : EReal) (r : Fin 256 → EReal) (cb : Fin 256 → Fin 256 → EReal) (k : Fin 256) : EReal :=
  (∑ d, r d * r d) - two * (∑ d, r d * cb k d) + ∑ d, cb k d * cb k d

/-- The codes at which `f` is least. -/
def minimisers (f : Fin 256 → EReal) : Finset (Fin 256) := Finset.univ.filter fun k => ∀ l, f k ≤ f l

/-- Some code is nearest. -/
theorem minimisers_nonempty (f : Fin 256 → EReal) : (minimisers f).Nonempty := by
  obtain ⟨k, -, hk⟩ := Finset.exists_min_image Finset.univ f ⟨0, Finset.mem_univ 0⟩
  exact ⟨k, Finset.mem_filter.2 ⟨Finset.mem_univ k, fun l => hk l (Finset.mem_univ l)⟩⟩

/-- The lowest index at which `f` is least. -/
def argmin (f : Fin 256 → EReal) : Fin 256 := (minimisers f).min' (minimisers_nonempty f)

/-- `f` is least at its `argmin`. -/
theorem argmin_le (f : Fin 256 → EReal) (l : Fin 256) : f (argmin f) ≤ f l :=
  (Finset.mem_filter.1 ((minimisers f).min'_mem (minimisers_nonempty f))).2 l

/-- No lower index has the least value: below `argmin` every value is larger. -/
theorem lt_of_lt_argmin (f : Fin 256 → EReal) (l : Fin 256) (h : l < argmin f) : f (argmin f) < f l := by
  refine lt_of_not_ge fun hle => ?_
  have hm : l ∈ minimisers f := Finset.mem_filter.2 ⟨Finset.mem_univ l, fun l' => hle.trans (argmin_le f l')⟩
  exact absurd ((minimisers f).min'_le l hm) (not_le.2 h)

/-- What characterizes `argmin`: a least value, and only larger ones below. -/
theorem eq_argmin (f : Fin 256 → EReal) (k : Fin 256) (hle : ∀ l, f k ≤ f l) (hlt : ∀ l, l < k → f k < f l) : k = argmin f := by
  refine le_antisymm (le_of_not_gt fun h => ?_) (le_of_not_gt fun h => ?_)
  · exact absurd (hlt _ h) (not_lt.2 (argmin_le f k))
  · exact absurd (lt_of_lt_argmin f k h) (not_lt.2 (hle _))

/-- The code chosen for a residual row: the nearest one, the lowest index on a tie. -/
def code (two : EReal) (r : Fin 256 → EReal) (cb : Fin 256 → Fin 256 → EReal) : Fin 256 := argmin (dist two r cb)

/-- What is left of the row after its nearest code is taken off. -/
def rest (two : EReal) (r : Fin 256 → EReal) (cb : Fin 256 → Fin 256 → EReal) : Fin 256 → EReal :=
  fun d => r d - cb (code two r cb) d

/-- Codebook `i` of the three. -/
def book (cbs : (⟨3, ![3, 256, 256]⟩ : Shape).Idx → EReal) (i : Fin 3) : Fin 256 → Fin 256 → EReal := fun k d => cbs (ix3 i k d)

/-- The residual row before each of the three steps. -/
def residual (two : EReal) (cbs : (⟨3, ![3, 256, 256]⟩ : Shape).Idx → EReal) (r : Fin 256 → EReal) : ℕ → Fin 256 → EReal
  | 0 => r
  | 1 => rest two r (book cbs 0)
  | _ => rest two (rest two r (book cbs 0)) (book cbs 1)

/-- The three codes of a row. -/
def codes (two : EReal) (cbs : (⟨3, ![3, 256, 256]⟩ : Shape).Idx → EReal) (r : Fin 256 → EReal) (i : Fin 3) : Fin 256 :=
  code two (residual two cbs r i) (book cbs i)

/-- Pixel `n` (row-major) of the 14×14 latent image `b`, as a row of channels. -/
def latentRow (h : Img 16 14 14 256) (b : Fin 16) (n : Fin 196) : Fin 256 → EReal :=
  fun d => h (ix4 b ⟨n / 14, by omega⟩ ⟨n % 14, by omega⟩ d)

/-- The images with the channels last. -/
def nhwc (x : Img 16 3 224 224) : Img 16 224 224 3 := fun j => x (ix4 (j 0) (j 3) (j 1) (j 2))

end Cert.Spec

end
-- ==== Proof.Model.lean ====
/-
  The answer of the problem as a function of its ten inputs.
-/
module

public import proofs.«01_k».proof.Proof.Spec

@[expose] public section

noncomputable section

namespace Cert.Spec

open Idealize.ShloMosaic

/-- The first layer's image. -/
def layer1 (x : Img 16 3 224 224) (w1 : Img 64 3 4 4) (b1 : (⟨1, ![64]⟩ : Shape).Idx → EReal) : Img 16 112 112 64 :=
  relu (conv 112 112 (nhwc x) w1 b1)

/-- The next layer's image, from the one before it. -/
def layer2 (y : Img 16 112 112 64) (w2 : Img 128 64 4 4) (b2 : (⟨1, ![128]⟩ : Shape).Idx → EReal) : Img 16 56 56 128 :=
  relu (conv 56 56 y w2 b2)

/-- The third layer's image, from the second's. -/
def layer3 (y : Img 16 56 56 128) (w3 : Img 256 128 4 4) (b3 : (⟨1, ![256]⟩ : Shape).Idx → EReal) : Img 16 28 28 256 :=
  relu (conv 28 28 y w3 b3)

/-- The latent image, from the third layer's. -/
def layer4 (y : Img 16 28 28 256) (w4 : Img 256 256 4 4) (b4 : (⟨1, ![256]⟩ : Shape).Idx → EReal) : Img 16 14 14 256 :=
  conv 14 14 y w4 b4

/-- The three codes of every latent pixel, as 32-bit integers. -/
def answer (two : EReal) (h : Img 16 14 14 256) (cbs : (⟨3, ![3, 256, 256]⟩ : Shape).Idx → EReal) :
    (⟨3, ![16, 196, 3]⟩ : Shape).Idx → BitVec 32 :=
  fun j => BitVec.ofNat 32 (codes two cbs (latentRow h (j 0) (j 1)) (j 2) : ℕ)

/-- The answer at an index. -/
theorem answer_at (two : EReal) (h : Img 16 14 14 256) (cbs : (⟨3, ![3, 256, 256]⟩ : Shape).Idx → EReal)
    (b : Fin 16) (n : Fin 196) (i : Fin 3) :
    answer two h cbs (ix3 b n i) = BitVec.ofNat 32 (codes two cbs (latentRow h b n) i : ℕ) := rfl

end Cert.Spec

end
-- ==== Proof.Taps.lean ====
/-
  The sixteen taps of a convolution, as the kernel's matrix products meet them: two taps of one kernel row that are
  neighbours in the columns are one product over twice the channels.
-/
module

public import proofs.«01_k».proof.Proof.Spec

@[expose] public section

noncomputable section

namespace Cert.Spec

open Idealize.ShloMosaic

/-- A padded read depends on the numbers of its row, column and channel only. -/
theorem padRead_congr {B H W C : ℕ} (y : Img B H W C) (b : Fin B) {r r' s s' : ℕ} {c c' : Fin C}
    (hr : r = r') (hs : s = s') (hc : (c : ℕ) = c') : padRead y b r s c = padRead y b r' s' c' := by
  obtain rfl := hr
  obtain rfl := hs
  obtain rfl := Fin.ext hc
  rfl

/-- A weight depends on the numbers of its coordinates only. -/
theorem weight_congr {O C : ℕ} (w : Img O C 4 4) {o o' : Fin O} {c c' : Fin C} {kh kh' kw kw' : Fin 4}
    (ho : (o : ℕ) = o') (hc : (c : ℕ) = c') (hh : (kh : ℕ) = kh') (hw : (kw : ℕ) = kw') :
    w (ix4 o c kh kw) = w (ix4 o' c' kh' kw') := by
  obtain rfl := Fin.ext ho
  obtain rfl := Fin.ext hc
  obtain rfl := Fin.ext hh
  obtain rfl := Fin.ext hw
  rfl

/-- A sum over twice `C` terms is the sum over the first `C` and the sum over the others. -/
theorem sum_pair {C N : ℕ} (hN : N = 2 * C) (f : Fin N → EReal) (g h : Fin C → EReal)
    (hg : ∀ c : Fin C, f ⟨c, by omega⟩ = g c) (hh : ∀ c : Fin C, f ⟨C + c, by omega⟩ = h c) :
    ∑ k, f k = ∑ c, g c + ∑ c, h c := by
  obtain rfl : N = C + C := by omega
  rw [Fin.sum_univ_add]
  exact congrArg₂ _ (Finset.sum_congr rfl fun c _ => hg c) (Finset.sum_congr rfl fun c _ => hh c)

/-- Two neighbouring taps as one sum: `f`'s first half is the tap `kw`, its second half the tap `kw'`. -/
theorem tap_pair {B H W C O N : ℕ} (y : Img B H W C) (w : Img O C 4 4) (b : Fin B) (p q : ℕ) (o : Fin O) (kh kw kw' : Fin 4)
    (hN : N = 2 * C) (f : Fin N → EReal)
    (h0 : ∀ c : Fin C, f ⟨c, by omega⟩ = padRead y b (2 * p + kh) (2 * q + kw) c * w (ix4 o c kh kw))
    (h1 : ∀ c : Fin C, f ⟨C + c, by omega⟩ = padRead y b (2 * p + kh) (2 * q + kw') c * w (ix4 o c kh kw')) :
    ∑ k, f k = tap y w b p q o kh kw + tap y w b p q o kh kw' :=
  sum_pair hN f _ _ h0 h1

/-- The convolution at a pixel. -/
theorem conv_at {B H W C O P Q : ℕ} (y : Img B H W C) (w : Img O C 4 4) (bias : (⟨1, ![O]⟩ : Shape).Idx → EReal)
    (b : Fin B) (p : Fin P) (q : Fin Q) (o : Fin O) :
    conv P Q y w bias (ix4 b p q o) = (∑ kh, ∑ kw, tap y w b p q o kh kw) + bias (ix1 o) := rfl

/-- The rectifier at a pixel. -/
theorem relu_at {B H W C : ℕ} (y : Img B H W C) (j : (⟨4, ![B, H, W, C]⟩ : Shape).Idx) : relu y j = max (y j) 0 := rfl

/-- Sixteen terms, by rows of four, each row as two pairs. -/
theorem sum_pairs (f : Fin 4 → Fin 4 → EReal) {a b c d a' b' c' d' : EReal}
    (ha : a = f 0 0 + f 0 1) (hb : b = f 0 2 + f 0 3) (hc : c = f 1 0 + f 1 1) (hd : d = f 1 2 + f 1 3)
    (ha' : a' = f 2 0 + f 2 1) (hb' : b' = f 2 2 + f 2 3) (hc' : c' = f 3 0 + f 3 1) (hd' : d' = f 3 2 + f 3 3) :
    (a + b) + (c + d) + (a' + b') + (c' + d') = ∑ kh, ∑ kw, f kh kw := by
  subst ha hb hc hd ha' hb' hc' hd'
  simp only [Fin.sum_univ_four, add_assoc]

/-- Sixteen terms, by eight pairs one after the other. -/
theorem sum_eight (f : Fin 4 → Fin 4 → EReal) {a b c d a' b' c' d' : EReal}
    (ha : a = f 0 0 + f 0 1) (hb : b = f 0 2 + f 0 3) (hc : c = f 1 0 + f 1 1) (hd : d = f 1 2 + f 1 3)
    (ha' : a' = f 2 0 + f 2 1) (hb' : b' = f 2 2 + f 2 3) (hc' : c' = f 3 0 + f 3 1) (hd' : d' = f 3 2 + f 3 3) :
    a + b + c + d + a' + b' + c' + d' = ∑ kh, ∑ kw, f kh kw := by
  rw [← sum_pairs f ha hb hc hd ha' hb' hc' hd']
  simp only [add_assoc]

/-- Sixteen terms, one after the other. -/
theorem sum_sixteen (f : Fin 4 → Fin 4 → EReal) {a₀ a₁ a₂ a₃ b₀ b₁ b₂ b₃ c₀ c₁ c₂ c₃ d₀ d₁ d₂ d₃ : EReal}
    (ha₀ : a₀ = f 0 0) (ha₁ : a₁ = f 0 1) (ha₂ : a₂ = f 0 2) (ha₃ : a₃ = f 0 3)
    (hb₀ : b₀ = f 1 0) (hb₁ : b₁ = f 1 1) (hb₂ : b₂ = f 1 2) (hb₃ : b₃ = f 1 3)
    (hc₀ : c₀ = f 2 0) (hc₁ : c₁ = f 2 1) (hc₂ : c₂ = f 2 2) (hc₃ : c₃ = f 2 3)
    (hd₀ : d₀ = f 3 0) (hd₁ : d₁ = f 3 1) (hd₂ : d₂ = f 3 2) (hd₃ : d₃ = f 3 3) :
    a₀ + a₁ + a₂ + a₃ + b₀ + b₁ + b₂ + b₃ + c₀ + c₁ + c₂ + c₃ + d₀ + d₁ + d₂ + d₃ = ∑ kh, ∑ kw, f kh kw := by
  subst ha₀ ha₁ ha₂ ha₃ hb₀ hb₁ hb₂ hb₃ hc₀ hc₁ hc₂ hc₃ hd₀ hd₁ hd₂ hd₃
  simp only [Fin.sum_univ_four, add_assoc]

end Cert.Spec

end
-- ==== Proof.Pads.lean ====
/-
  A padded array read at an index, as the problem's zero-padded image.
-/
module

public import Idealize.ShloMosaic.Lib.StableHlo.ReadAt
public import proofs.«01_k».proof.Proof.Taps
public import proofs.«01_k».proof.Proof.Gen.KernelIdeal.Frame

@[expose] public section

noncomputable section

namespace Cert.Spec

open Idealize.ShloMosaic

/-- The padding value, the integer zero converted, is zero. -/
theorem sitofp_zero : (FloatOps.sitofp (F := Ideal) FTy.f32 0#32 : EReal) = 0 := by
  show (((0#32 : BitVec 32).toInt : ℝ) : EReal) = 0
  simp

/-- A read under the test that it is inside the image, with zero elsewhere, is the padded read. -/
theorem dite_pad {B H W C : ℕ} {P : Prop} [Decidable P] (y : Img B H W C) (b : Fin B) (r s : ℕ) (c : Fin C)
    (hP : P ↔ (1 ≤ r ∧ r - 1 < H) ∧ (1 ≤ s ∧ s - 1 < W)) (i : P → Fin H) (j : P → Fin W)
    (hi : ∀ h, r = i h + 1) (hj : ∀ h, s = j h + 1) {z : EReal} (hz : z = 0) :
    (if h : P then y (ix4 b (i h) (j h) c) else z) = padRead y b r s c := by
  by_cases h : P
  · rw [dif_pos h, padRead_of y b r s c (i h) (j h) (hi h) (hj h)]
  · rw [dif_neg h, padRead_out y b r s c fun h' => h (hP.2 h'), hz]

end Cert.Spec

end
-- ==== Proof.Host0.lean ====
/-
  What the host hands the first convolution: the image padded by zeros, its sixteen shifted samples of stride two laid
  side by side along the channels; the weights as a matrix; and the bias as a row.
-/
module

public import proofs.«01_k».proof.Proof.Pads

@[expose] public section

set_option maxRecDepth 16384

noncomputable section

namespace Cert.HostRun

open Idealize.ShloMosaic Idealize.ShloMosaic.TcCoe Idealize.ShloMosaic.StableHlo Cert.KernelIdeal Cert.KernelIdeal.Gen Cert.Spec

/-- Sample `n` starts at row `n / 4` and column `n % 4`, and fits. -/
theorem slices0 : ∀ n : Fin 16, S16x227x227x3.SlicesBy ![0, n.val / 4, n.val % 4, 0] ![1, 2, 2, 1] S16x112x112x3 := by decide +kernel

/-- Sixteen pieces of three channels make forty-eight. -/
theorem joins0 : Shape.Concatenates ((List.ofFn fun n : Fin 16 => (⟨S16x112x112x3, fun _ => (0 : EReal)⟩ :
    (s : Shape) × (s.Idx → EReal))).map (·.1)) S16x112x112x48 3 := by decide +kernel

/-- Sample `n` of the padded image: every other row and column from the tap `(n / 4, n % 4)` on. -/
def sample (x : Vec Ideal S16x227x227x3 .f32) (n : Fin 16) : Vec Ideal S16x112x112x3 .f32 :=
  Host.slice S16x112x112x3 ![0, n.val / 4, n.val % 4, 0] ![1, 2, 2, 1] x (slices0 n)

/-- The sixteen samples of the padded image, laid along the channels. -/
theorem cat0 (V : Valuation τ sig (Elt Ideal)) (x : Vec Ideal S16x227x227x3 .f32) (hx : V (Proc.devRef .tc main_v1) = x) :
    (after hostOps0_2 V (Proc.devRef .tc main_v18) : Vec Ideal S16x112x112x48 .f32)
    = concatenate S16x112x112x48 3 (List.ofFn fun n : Fin 16 => ⟨S16x112x112x3, sample x n⟩) joins0 := by
  subst hx
  after_reads_simp
  rfl

/-- A sample at a pixel. -/
theorem sample_at (x : Vec Ideal S16x227x227x3 .f32) (n : Fin 16) (b : Fin 16) (p q : Fin 112) (c : Fin 3) :
    sample x n (ix4 b p q c) = x (ix4 b ⟨n / 4 + 2 * p, by omega⟩ ⟨n % 4 + 2 * q, by omega⟩ c) := by
  unfold sample
  pointwise

/-- The padded image at a pixel: channels last, one row above and one column on the left. -/
theorem padded0 (W : Valuation τ sig (Elt Ideal)) (x : Vec Ideal S16x3x224x224 .f32) (hx : W (Proc.devRef .tc main_arg0) = x)
    (b : Fin 16) (r s : Fin 227) (c : Fin 3) :
    (after hostOps0_1 (after hostOps0 W) (Proc.devRef .tc main_v1) : Vec Ideal S16x227x227x3 .f32) (ix4 b r s c)
      = padRead (nhwc x) b r s c := by
  have e : (after hostOps0_1 (after hostOps0 W) (Proc.devRef .tc main_v1) : Vec Ideal S16x227x227x3 .f32)
      = pad S16x227x227x3 ![0, 1, 1, 0] ![0, 2, 2, 0] ![0, 0, 0, 0]
        (transpose S16x224x224x3 [0, 2, 3, 1] x transposes_S16x3x224x224_S16x224x224x3_0_2_3_1)
        (sitofp (F := Ideal) .f32 (constantI S_ 32 0#32)) pads_S16x224x224x3_S16x227x227x3_000_120_120_000 h_S_ := by
    subst hx
    after_reads_simp
    rfl
  rw [e]
  pointwise
  exact dite_pad (nhwc x) b _ _ c (by omega) (fun h => ⟨r - 1, by omega⟩) (fun h => ⟨s - 1, by omega⟩)
    (fun _ => by simp only []; omega) (fun _ => by simp only []; omega) sitofp_zero

/-- The operand of the call, at an index: the pixel, or the padding, under the tap that the channel names. -/
theorem host0_z (W : Valuation τ sig (Elt Ideal)) (x : Vec Ideal S16x3x224x224 .f32) (hx : W (Proc.devRef .tc main_arg0) = x)
    (b : Fin 16) (p q : Fin 112) (k : Fin 48) :
    (after hostOps0_2 (after hostOps0_1 (after hostOps0 W)) (Proc.devRef .tc main_v18) : Vec Ideal S16x112x112x48 .f32) (ix4 b p q k)
      = padRead (nhwc x) b (2 * p + k / 12) (2 * q + k / 3 % 4) (⟨k % 3, Nat.mod_lt _ (by omega)⟩ : Fin 3) := by
  rw [cat0 _ _ rfl]
  refine (concatenate_ofFn_apply (t := S16x112x112x48) (s₁ := S16x112x112x3) 3 (sample _) joins0 rfl 3 rfl (ix4 b p q k) ⟨k / 3, by omega⟩ rfl
    (ix4 b p q ⟨k % 3, Nat.mod_lt _ (by omega)⟩) rfl ?_).trans ?_
  · intro a ha
    fin_cases a
    exacts [rfl, rfl, rfl, absurd rfl ha]
  · rw [sample_at, padded0 W x hx]
    exact padRead_congr (nhwc x) b (by simp only []; omega) (by simp only []; omega) rfl

/-- The weights as a matrix. -/
theorem host0_w (V : Valuation τ sig (Elt Ideal)) (w : Vec Ideal S64x3x4x4 .f32) (hw : V (Proc.devRef .tc main_arg1) = w)
    (k : Fin 48) (o : Fin 64) :
    (after hostOps0_2 V (Proc.devRef .tc main_v20) : Vec Ideal S48x64 .f32) (ix2 k o)
      = w (ix4 o (⟨k % 3, Nat.mod_lt _ (by omega)⟩ : Fin 3) ⟨k / 12, by omega⟩ ⟨k / 3 % 4, Nat.mod_lt _ (by omega)⟩) := by
  have e : (after hostOps0_2 V (Proc.devRef .tc main_v20) : Vec Ideal S48x64 .f32)
      = shapeCast S48x64 (transpose S4x4x3x64 [2, 3, 1, 0] w transposes_S64x3x4x4_S4x4x3x64_2_3_1_0) shapeCasts_S4x4x3x64_S48x64 := by
    subst hw
    after_reads_simp
    rfl
  rw [e]
  pointwise

/-- The bias as a row. -/
theorem host0_b (V : Valuation τ sig (Elt Ideal)) (v : Vec Ideal S64 .f32) (hv : V (Proc.devRef .tc main_arg2) = v) (o : Fin 64) :
    (after hostOps0_2 V (Proc.devRef .tc main_v21) : Vec Ideal S1x64 .f32) (ix2 0 o) = v (ix1 o) := by
  have e : (after hostOps0_2 V (Proc.devRef .tc main_v21) : Vec Ideal S1x64 .f32) = shapeCast S1x64 v shapeCasts_S64_S1x64 := by
    subst hv
    after_reads_simp
    rfl
  rw [e]
  pointwise

end Cert.HostRun

end
-- ==== Proof.Host1.lean ====
/-
  What the host hands the second convolution: the image before it cut into its four row and column parities, each
  padded by zeros, laid side by side along the channels; its weights as a matrix; and its bias as a row.
-/
module

public import proofs.«01_k».proof.Proof.Pads

@[expose] public section

set_option maxRecDepth 16384

noncomputable section

namespace Cert.HostRun

open Idealize.ShloMosaic Idealize.ShloMosaic.TcCoe Idealize.ShloMosaic.StableHlo Cert.KernelIdeal Cert.KernelIdeal.Gen Cert.Spec

/-- The four padded parities, laid along the channels. -/
theorem cat1 (V : Valuation τ sig (Elt Ideal)) : (after hostOps1_8 V (Proc.devRef .tc main_v36) : Vec Ideal S16x57x57x256 .f32)
    = concatenate S16x57x57x256 3 [⟨S16x57x57x64, (V (Proc.devRef .tc main_v26) : Vec Ideal S16x57x57x64 .f32)⟩,
      ⟨S16x57x57x64, (V (Proc.devRef .tc main_v29) : Vec Ideal S16x57x57x64 .f32)⟩,
      ⟨S16x57x57x64, (V (Proc.devRef .tc main_v32) : Vec Ideal S16x57x57x64 .f32)⟩,
      ⟨S16x57x57x64, (V (Proc.devRef .tc main_v35) : Vec Ideal S16x57x57x64 .f32)⟩]
      concatenates_S16x57x57x64_S16x57x57x64_S16x57x57x64_S16x57x57x64_S16x57x57x256_d3 := by
  after_reads_simp
  rfl

/-- The contents before the parities are joined. -/
abbrev joined1 (W : Valuation τ sig (Elt Ideal)) : Valuation τ sig (Elt Ideal) :=
  after hostOps1_7 (after hostOps1_6 (after hostOps1_5 (after hostOps1_4 (after hostOps1_3 (after hostOps1_2
    (after hostOps1_1 (after hostOps1 W)))))))

/-- The even rows, odd columns, padded. -/
theorem phase1_0 (W : Valuation τ sig (Elt Ideal)) (y : Vec Ideal S16x112x112x64 .f32) (hy : W (Proc.devRef .tc main_v22) = y)
    (b : Fin 16) (r s : Fin 57) (c : Fin 64) :
    (joined1 W (Proc.devRef .tc main_v26) : Vec Ideal S16x57x57x64 .f32) (ix4 b r s c) = padRead y b (2 * r + 1) (2 * s) c := by
  have e : (joined1 W (Proc.devRef .tc main_v26) : Vec Ideal S16x57x57x64 .f32)
      = pad S16x57x57x64 ![0, 0, 1, 0] ![0, 1, 0, 0] ![0, 0, 0, 0] (shapeCast S16x56x56x64 (extractStridedSlice S16x56x1x56x1x64 ![0, 0, 0, 0, 1, 0]
      (shapeCast S16x56x2x56x2x64 y shapeCasts_S16x112x112x64_S16x56x2x56x2x64) slices_S16x56x2x56x2x64_S16x56x1x56x1x64_0_0_0_0_1_0) shapeCasts_S16x56x1x56x1x64_S16x56x56x64)
        (sitofp (F := Ideal) .f32 (constantI S_ 32 0#32)) pads_S16x56x56x64_S16x57x57x64_000_010_100_000 h_S_ := by
    subst hy
    after_reads_simp
    rfl
  rw [e]
  pointwise
  exact dite_pad y b _ _ c (by omega) _ _ (fun _ => by simp only []; omega) (fun _ => by simp only []; omega) sitofp_zero

/-- The even rows, even columns, padded. -/
theorem phase1_1 (W : Valuation τ sig (Elt Ideal)) (y : Vec Ideal S16x112x112x64 .f32) (hy : W (Proc.devRef .tc main_v22) = y)
    (b : Fin 16) (r s : Fin 57) (c : Fin 64) :
    (joined1 W (Proc.devRef .tc main_v29) : Vec Ideal S16x57x57x64 .f32) (ix4 b r s c) = padRead y b (2 * r + 1) (2 * s + 1) c := by
  have e : (joined1 W (Proc.devRef .tc main_v29) : Vec Ideal S16x57x57x64 .f32)
      = pad S16x57x57x64 ![0, 0, 0, 0] ![0, 1, 1, 0] ![0, 0, 0, 0] (shapeCast S16x56x56x64 (extractStridedSlice S16x56x1x56x1x64 ![0, 0, 0, 0, 0, 0]
      (shapeCast S16x56x2x56x2x64 y shapeCasts_S16x112x112x64_S16x56x2x56x2x64) slices_S16x56x2x56x2x64_S16x56x1x56x1x64_0_0_0_0_0_0) shapeCasts_S16x56x1x56x1x64_S16x56x56x64)
        (sitofp (F := Ideal) .f32 (constantI S_ 32 0#32)) pads_S16x56x56x64_S16x57x57x64_000_010_010_000 h_S_ := by
    subst hy
    after_reads_simp
    rfl
  rw [e]
  pointwise
  exact dite_pad y b _ _ c (by omega) _ _ (fun _ => by simp only []; omega) (fun _ => by simp only []; omega) sitofp_zero

/-- The odd rows, odd columns, padded. -/
theorem phase1_2 (W : Valuation τ sig (Elt Ideal)) (y : Vec Ideal S16x112x112x64 .f32) (hy : W (Proc.devRef .tc main_v22) = y)
    (b : Fin 16) (r s : Fin 57) (c : Fin 64) :
    (joined1 W (Proc.devRef .tc main_v32) : Vec Ideal S16x57x57x64 .f32) (ix4 b r s c) = padRead y b (2 * r) (2 * s) c := by
  have e : (joined1 W (Proc.devRef .tc main_v32) : Vec Ideal S16x57x57x64 .f32)
      = pad S16x57x57x64 ![0, 1, 1, 0] ![0, 0, 0, 0] ![0, 0, 0, 0] (shapeCast S16x56x56x64 (extractStridedSlice S16x56x1x56x1x64 ![0, 0, 1, 0, 1, 0]
      (shapeCast S16x56x2x56x2x64 y shapeCasts_S16x112x112x64_S16x56x2x56x2x64) slices_S16x56x2x56x2x64_S16x56x1x56x1x64_0_0_1_0_1_0) shapeCasts_S16x56x1x56x1x64_S16x56x56x64)
        (sitofp (F := Ideal) .f32 (constantI S_ 32 0#32)) pads_S16x56x56x64_S16x57x57x64_000_100_100_000 h_S_ := by
    subst hy
    after_reads_simp
    rfl
  rw [e]
  pointwise
  exact dite_pad y b _ _ c (by omega) _ _ (fun _ => by simp only []; omega) (fun _ => by simp only []; omega) sitofp_zero

/-- The odd rows, even columns, padded. -/
theorem phase1_3 (W : Valuation τ sig (Elt Ideal)) (y : Vec Ideal S16x112x112x64 .f32) (hy : W (Proc.devRef .tc main_v22) = y)
    (b : Fin 16) (r s : Fin 57) (c : Fin 64) :
    (joined1 W (Proc.devRef .tc main_v35) : Vec Ideal S16x57x57x64 .f32) (ix4 b r s c) = padRead y b (2 * r) (2 * s + 1) c := by
  have e : (joined1 W (Proc.devRef .tc main_v35) : Vec Ideal S16x57x57x64 .f32)
      = pad S16x57x57x64 ![0, 1, 0, 0] ![0, 0, 1, 0] ![0, 0, 0, 0] (shapeCast S16x56x56x64 (extractStridedSlice S16x56x1x56x1x64 ![0, 0, 1, 0, 0, 0]
      (shapeCast S16x56x2x56x2x64 y shapeCasts_S16x112x112x64_S16x56x2x56x2x64) slices_S16x56x2x56x2x64_S16x56x1x56x1x64_0_0_1_0_0_0) shapeCasts_S16x56x1x56x1x64_S16x56x56x64)
        (sitofp (F := Ideal) .f32 (constantI S_ 32 0#32)) pads_S16x56x56x64_S16x57x57x64_000_100_010_000 h_S_ := by
    subst hy
    after_reads_simp
    rfl
  rw [e]
  pointwise
  exact dite_pad y b _ _ c (by omega) _ _ (fun _ => by simp only []; omega) (fun _ => by simp only []; omega) sitofp_zero

/-- The operand of the call, at an index: the pixel, or the padding, that the parity layout puts there. -/
theorem host1_z (W : Valuation τ sig (Elt Ideal)) (y : Vec Ideal S16x112x112x64 .f32) (hy : W (Proc.devRef .tc main_v22) = y)
    (b : Fin 16) (r s : Fin 57) (k : Fin 256) :
    (after hostOps1_8 (joined1 W) (Proc.devRef .tc main_v36) : Vec Ideal S16x57x57x256 .f32) (ix4 b r s k)
      = padRead y b (2 * r + 1 - k / 128) (2 * s + k % 128 / 64) (⟨k % 64, Nat.mod_lt _ (by omega)⟩ : Fin 64) := by
  rw [cat1]
  pointwise
  by_cases h0 : (k : ℕ) < 64
  · rw [dif_pos h0, phase1_0 W y hy]
    exact padRead_congr y b (by omega) (by omega) (by simp only []; omega)
  rw [dif_neg h0]
  by_cases h1 : (k : ℕ) - 64 < 64
  · rw [dif_pos h1, phase1_1 W y hy]
    exact padRead_congr y b (by omega) (by omega) (by simp only []; omega)
  rw [dif_neg h1]
  by_cases h2 : (k : ℕ) - 64 - 64 < 64
  · rw [dif_pos h2, phase1_2 W y hy]
    exact padRead_congr y b (by omega) (by omega) (by simp only []; omega)
  rw [dif_neg h2, phase1_3 W y hy]
  exact padRead_congr y b (by omega) (by omega) (by simp only []; omega)

/-- The weights as a matrix. -/
theorem host1_w (V : Valuation τ sig (Elt Ideal)) (w : Vec Ideal S128x64x4x4 .f32) (hw : V (Proc.devRef .tc main_arg3) = w)
    (k : Fin 1024) (o : Fin 128) :
    (after hostOps1_8 V (Proc.devRef .tc main_v38) : Vec Ideal S1024x128 .f32) (ix2 k o)
      = w (ix4 o (⟨k % 64, Nat.mod_lt _ (by omega)⟩ : Fin 64) ⟨k / 256, by omega⟩ ⟨k / 64 % 4, Nat.mod_lt _ (by omega)⟩) := by
  have e : (after hostOps1_8 V (Proc.devRef .tc main_v38) : Vec Ideal S1024x128 .f32)
      = shapeCast S1024x128 (transpose S4x4x64x128 [2, 3, 1, 0] w transposes_S128x64x4x4_S4x4x64x128_2_3_1_0) shapeCasts_S4x4x64x128_S1024x128 := by
    subst hw
    after_reads_simp
    rfl
  rw [e]
  pointwise

/-- The bias as a row. -/
theorem host1_b (V : Valuation τ sig (Elt Ideal)) (v : Vec Ideal S128 .f32) (hv : V (Proc.devRef .tc main_arg4) = v) (o : Fin 128) :
    (after hostOps1_8 V (Proc.devRef .tc main_v39) : Vec Ideal S1x128 .f32) (ix2 0 o) = v (ix1 o) := by
  have e : (after hostOps1_8 V (Proc.devRef .tc main_v39) : Vec Ideal S1x128 .f32) = shapeCast S1x128 v shapeCasts_S128_S1x128 := by
    subst hv
    after_reads_simp
    rfl
  rw [e]
  pointwise

end Cert.HostRun

end
-- ==== Proof.Host2.lean ====
/-
  What the host hands the third convolution: the image before it cut into its four row and column parities, each
  padded by zeros, laid side by side along the channels; its weights as a matrix; and its bias as a row.
-/
module

public import proofs.«01_k».proof.Proof.Pads

@[expose] public section

set_option maxRecDepth 16384

noncomputable section

namespace Cert.HostRun

open Idealize.ShloMosaic Idealize.ShloMosaic.TcCoe Idealize.ShloMosaic.StableHlo Cert.KernelIdeal Cert.KernelIdeal.Gen Cert.Spec

/-- The four padded parities, laid along the channels. -/
theorem cat2 (V : Valuation τ sig (Elt Ideal)) : (after hostOps2_8 V (Proc.devRef .tc main_v54) : Vec Ideal S16x29x29x512 .f32)
    = concatenate S16x29x29x512 3 [⟨S16x29x29x128, (V (Proc.devRef .tc main_v44) : Vec Ideal S16x29x29x128 .f32)⟩,
      ⟨S16x29x29x128, (V (Proc.devRef .tc main_v47) : Vec Ideal S16x29x29x128 .f32)⟩,
      ⟨S16x29x29x128, (V (Proc.devRef .tc main_v50) : Vec Ideal S16x29x29x128 .f32)⟩,
      ⟨S16x29x29x128, (V (Proc.devRef .tc main_v53) : Vec Ideal S16x29x29x128 .f32)⟩]
      concatenates_S16x29x29x128_S16x29x29x128_S16x29x29x128_S16x29x29x128_S16x29x29x512_d3 := by
  after_reads_simp
  rfl

/-- The contents before the parities are joined. -/
abbrev joined2 (W : Valuation τ sig (Elt Ideal)) : Valuation τ sig (Elt Ideal) :=
  after hostOps2_7 (after hostOps2_6 (after hostOps2_5 (after hostOps2_4 (after hostOps2_3 (after hostOps2_2
    (after hostOps2_1 (after hostOps2 W)))))))

/-- The even rows, odd columns, padded. -/
theorem phase2_0 (W : Valuation τ sig (Elt Ideal)) (y : Vec Ideal S16x56x56x128 .f32) (hy : W (Proc.devRef .tc main_v40) = y)
    (b : Fin 16) (r s : Fin 29) (c : Fin 128) :
    (joined2 W (Proc.devRef .tc main_v44) : Vec Ideal S16x29x29x128 .f32) (ix4 b r s c) = padRead y b (2 * r + 1) (2 * s) c := by
  have e : (joined2 W (Proc.devRef .tc main_v44) : Vec Ideal S16x29x29x128 .f32)
      = pad S16x29x29x128 ![0, 0, 1, 0] ![0, 1, 0, 0] ![0, 0, 0, 0] (shapeCast S16x28x28x128 (extractStridedSlice S16x28x1x28x1x128 ![0, 0, 0, 0, 1, 0]
      (shapeCast S16x28x2x28x2x128 y shapeCasts_S16x56x56x128_S16x28x2x28x2x128) slices_S16x28x2x28x2x128_S16x28x1x28x1x128_0_0_0_0_1_0) shapeCasts_S16x28x1x28x1x128_S16x28x28x128)
        (sitofp (F := Ideal) .f32 (constantI S_ 32 0#32)) pads_S16x28x28x128_S16x29x29x128_000_010_100_000 h_S_ := by
    subst hy
    after_reads_simp
    rfl
  rw [e]
  pointwise
  exact dite_pad y b _ _ c (by omega) _ _ (fun _ => by simp only []; omega) (fun _ => by simp only []; omega) sitofp_zero

/-- The even rows, even columns, padded. -/
theorem phase2_1 (W : Valuation τ sig (Elt Ideal)) (y : Vec Ideal S16x56x56x128 .f32) (hy : W (Proc.devRef .tc main_v40) = y)
    (b : Fin 16) (r s : Fin 29) (c : Fin 128) :
    (joined2 W (Proc.devRef .tc main_v47) : Vec Ideal S16x29x29x128 .f32) (ix4 b r s c) = padRead y b (2 * r + 1) (2 * s + 1) c := by
  have e : (joined2 W (Proc.devRef .tc main_v47) : Vec Ideal S16x29x29x128 .f32)
      = pad S16x29x29x128 ![0, 0, 0, 0] ![0, 1, 1, 0] ![0, 0, 0, 0] (shapeCast S16x28x28x128 (extractStridedSlice S16x28x1x28x1x128 ![0, 0, 0, 0, 0, 0]
      (shapeCast S16x28x2x28x2x128 y shapeCasts_S16x56x56x128_S16x28x2x28x2x128) slices_S16x28x2x28x2x128_S16x28x1x28x1x128_0_0_0_0_0_0) shapeCasts_S16x28x1x28x1x128_S16x28x28x128)
        (sitofp (F := Ideal) .f32 (constantI S_ 32 0#32)) pads_S16x28x28x128_S16x29x29x128_000_010_010_000 h_S_ := by
    subst hy
    after_reads_simp
    rfl
  rw [e]
  pointwise
  exact dite_pad y b _ _ c (by omega) _ _ (fun _ => by simp only []; omega) (fun _ => by simp only []; omega) sitofp_zero

/-- The odd rows, odd columns, padded. -/
theorem phase2_2 (W : Valuation τ sig (Elt Ideal)) (y : Vec Ideal S16x56x56x128 .f32) (hy : W (Proc.devRef .tc main_v40) = y)
    (b : Fin 16) (r s : Fin 29) (c : Fin 128) :
    (joined2 W (Proc.devRef .tc main_v50) : Vec Ideal S16x29x29x128 .f32) (ix4 b r s c) = padRead y b (2 * r) (2 * s) c := by
  have e : (joined2 W (Proc.devRef .tc main_v50) : Vec Ideal S16x29x29x128 .f32)
      = pad S16x29x29x128 ![0, 1, 1, 0] ![0, 0, 0, 0] ![0, 0, 0, 0] (shapeCast S16x28x28x128 (extractStridedSlice S16x28x1x28x1x128 ![0, 0, 1, 0, 1, 0]
      (shapeCast S16x28x2x28x2x128 y shapeCasts_S16x56x56x128_S16x28x2x28x2x128) slices_S16x28x2x28x2x128_S16x28x1x28x1x128_0_0_1_0_1_0) shapeCasts_S16x28x1x28x1x128_S16x28x28x128)
        (sitofp (F := Ideal) .f32 (constantI S_ 32 0#32)) pads_S16x28x28x128_S16x29x29x128_000_100_100_000 h_S_ := by
    subst hy
    after_reads_simp
    rfl
  rw [e]
  pointwise
  exact dite_pad y b _ _ c (by omega) _ _ (fun _ => by simp only []; omega) (fun _ => by simp only []; omega) sitofp_zero

/-- The odd rows, even columns, padded. -/
theorem phase2_3 (W : Valuation τ sig (Elt Ideal)) (y : Vec Ideal S16x56x56x128 .f32) (hy : W (Proc.devRef .tc main_v40) = y)
    (b : Fin 16) (r s : Fin 29) (c : Fin 128) :
    (joined2 W (Proc.devRef .tc main_v53) : Vec Ideal S16x29x29x128 .f32) (ix4 b r s c) = padRead y b (2 * r) (2 * s + 1) c := by
  have e : (joined2 W (Proc.devRef .tc main_v53) : Vec Ideal S16x29x29x128 .f32)
      = pad S16x29x29x128 ![0, 1, 0, 0] ![0, 0, 1, 0] ![0, 0, 0, 0] (shapeCast S16x28x28x128 (extractStridedSlice S16x28x1x28x1x128 ![0, 0, 1, 0, 0, 0]
      (shapeCast S16x28x2x28x2x128 y shapeCasts_S16x56x56x128_S16x28x2x28x2x128) slices_S16x28x2x28x2x128_S16x28x1x28x1x128_0_0_1_0_0_0) shapeCasts_S16x28x1x28x1x128_S16x28x28x128)
        (sitofp (F := Ideal) .f32 (constantI S_ 32 0#32)) pads_S16x28x28x128_S16x29x29x128_000_100_010_000 h_S_ := by
    subst hy
    after_reads_simp
    rfl
  rw [e]
  pointwise
  exact dite_pad y b _ _ c (by omega) _ _ (fun _ => by simp only []; omega) (fun _ => by simp only []; omega) sitofp_zero

/-- The operand of the call, at an index: the pixel, or the padding, that the parity layout puts there. -/
theorem host2_z (W : Valuation τ sig (Elt Ideal)) (y : Vec Ideal S16x56x56x128 .f32) (hy : W (Proc.devRef .tc main_v40) = y)
    (b : Fin 16) (r s : Fin 29) (k : Fin 512) :
    (after hostOps2_8 (joined2 W) (Proc.devRef .tc main_v54) : Vec Ideal S16x29x29x512 .f32) (ix4 b r s k)
      = padRead y b (2 * r + 1 - k / 256) (2 * s + k % 256 / 128) (⟨k % 128, Nat.mod_lt _ (by omega)⟩ : Fin 128) := by
  rw [cat2]
  pointwise
  by_cases h0 : (k : ℕ) < 128
  · rw [dif_pos h0, phase2_0 W y hy]
    exact padRead_congr y b (by omega) (by omega) (by simp only []; omega)
  rw [dif_neg h0]
  by_cases h1 : (k : ℕ) - 128 < 128
  · rw [dif_pos h1, phase2_1 W y hy]
    exact padRead_congr y b (by omega) (by omega) (by simp only []; omega)
  rw [dif_neg h1]
  by_cases h2 : (k : ℕ) - 128 - 128 < 128
  · rw [dif_pos h2, phase2_2 W y hy]
    exact padRead_congr y b (by omega) (by omega) (by simp only []; omega)
  rw [dif_neg h2, phase2_3 W y hy]
  exact padRead_congr y b (by omega) (by omega) (by simp only []; omega)

/-- The weights as a matrix. -/
theorem host2_w (V : Valuation τ sig (Elt Ideal)) (w : Vec Ideal S256x128x4x4 .f32) (hw : V (Proc.devRef .tc main_arg5) = w)
    (k : Fin 2048) (o : Fin 256) :
    (after hostOps2_8 V (Proc.devRef .tc main_v56) : Vec Ideal S2048x256 .f32) (ix2 k o)
      = w (ix4 o (⟨k % 128, Nat.mod_lt _ (by omega)⟩ : Fin 128) ⟨k / 512, by omega⟩ ⟨k / 128 % 4, Nat.mod_lt _ (by omega)⟩) := by
  have e : (after hostOps2_8 V (Proc.devRef .tc main_v56) : Vec Ideal S2048x256 .f32)
      = shapeCast S2048x256 (transpose S4x4x128x256 [2, 3, 1, 0] w transposes_S256x128x4x4_S4x4x128x256_2_3_1_0) shapeCasts_S4x4x128x256_S2048x256 := by
    subst hw
    after_reads_simp
    rfl
  rw [e]
  pointwise

/-- The bias as a row. -/
theorem host2_b (V : Valuation τ sig (Elt Ideal)) (v : Vec Ideal S256 .f32) (hv : V (Proc.devRef .tc main_arg6) = v) (o : Fin 256) :
    (after hostOps2_8 V (Proc.devRef .tc main_v57) : Vec Ideal S1x256 .f32) (ix2 0 o) = v (ix1 o) := by
  have e : (after hostOps2_8 V (Proc.devRef .tc main_v57) : Vec Ideal S1x256 .f32) = shapeCast S1x256 v shapeCasts_S256_S1x256 := by
    subst hv
    after_reads_simp
    rfl
  rw [e]
  pointwise

end Cert.HostRun

end
-- ==== Proof.Host3.lean ====
/-
  What the host hands the fourth convolution: the image before it cut into its four row and column parities, each
  padded by zeros, laid side by side along the channels; its weights as a matrix; and its bias as a row.
-/
module

public import proofs.«01_k».proof.Proof.Pads

@[expose] public section

set_option maxRecDepth 16384

noncomputable section

namespace Cert.HostRun

open Idealize.ShloMosaic Idealize.ShloMosaic.TcCoe Idealize.ShloMosaic.StableHlo Cert.KernelIdeal Cert.KernelIdeal.Gen Cert.Spec

/-- The four padded parities, laid along the channels. -/
theorem cat3 (V : Valuation τ sig (Elt Ideal)) : (after hostOps3_8 V (Proc.devRef .tc main_v72) : Vec Ideal S16x15x15x1024 .f32)
    = concatenate S16x15x15x1024 3 [⟨S16x15x15x256, (V (Proc.devRef .tc main_v62) : Vec Ideal S16x15x15x256 .f32)⟩,
      ⟨S16x15x15x256, (V (Proc.devRef .tc main_v65) : Vec Ideal S16x15x15x256 .f32)⟩,
      ⟨S16x15x15x256, (V (Proc.devRef .tc main_v68) : Vec Ideal S16x15x15x256 .f32)⟩,
      ⟨S16x15x15x256, (V (Proc.devRef .tc main_v71) : Vec Ideal S16x15x15x256 .f32)⟩]
      concatenates_S16x15x15x256_S16x15x15x256_S16x15x15x256_S16x15x15x256_S16x15x15x1024_d3 := by
  after_reads_simp
  rfl

/-- The contents before the parities are joined. -/
abbrev joined3 (W : Valuation τ sig (Elt Ideal)) : Valuation τ sig (Elt Ideal) :=
  after hostOps3_7 (after hostOps3_6 (after hostOps3_5 (after hostOps3_4 (after hostOps3_3 (after hostOps3_2
    (after hostOps3_1 (after hostOps3 W)))))))

/-- The even rows, odd columns, padded. -/
theorem phase3_0 (W : Valuation τ sig (Elt Ideal)) (y : Vec Ideal S16x28x28x256 .f32) (hy : W (Proc.devRef .tc main_v58) = y)
    (b : Fin 16) (r s : Fin 15) (c : Fin 256) :
    (joined3 W (Proc.devRef .tc main_v62) : Vec Ideal S16x15x15x256 .f32) (ix4 b r s c) = padRead y b (2 * r + 1) (2 * s) c := by
  have e : (joined3 W (Proc.devRef .tc main_v62) : Vec Ideal S16x15x15x256 .f32)
      = pad S16x15x15x256 ![0, 0, 1, 0] ![0, 1, 0, 0] ![0, 0, 0, 0] (shapeCast S16x14x14x256 (extractStridedSlice S16x14x1x14x1x256 ![0, 0, 0, 0, 1, 0]
      (shapeCast S16x14x2x14x2x256 y shapeCasts_S16x28x28x256_S16x14x2x14x2x256) slices_S16x14x2x14x2x256_S16x14x1x14x1x256_0_0_0_0_1_0) shapeCasts_S16x14x1x14x1x256_S16x14x14x256)
        (sitofp (F := Ideal) .f32 (constantI S_ 32 0#32)) pads_S16x14x14x256_S16x15x15x256_000_010_100_000 h_S_ := by
    subst hy
    after_reads_simp
    rfl
  rw [e]
  pointwise
  exact dite_pad y b _ _ c (by omega) _ _ (fun _ => by simp only []; omega) (fun _ => by simp only []; omega) sitofp_zero

/-- The even rows, even columns, padded. -/
theorem phase3_1 (W : Valuation τ sig (Elt Ideal)) (y : Vec Ideal S16x28x28x256 .f32) (hy : W (Proc.devRef .tc main_v58) = y)
    (b : Fin 16) (r s : Fin 15) (c : Fin 256) :
    (joined3 W (Proc.devRef .tc main_v65) : Vec Ideal S16x15x15x256 .f32) (ix4 b r s c) = padRead y b (2 * r + 1) (2 * s + 1) c := by
  have e : (joined3 W (Proc.devRef .tc main_v65) : Vec Ideal S16x15x15x256 .f32)
      = pad S16x15x15x256 ![0, 0, 0, 0] ![0, 1, 1, 0] ![0, 0, 0, 0] (shapeCast S16x14x14x256 (extractStridedSlice S16x14x1x14x1x256 ![0, 0, 0, 0, 0, 0]
      (shapeCast S16x14x2x14x2x256 y shapeCasts_S16x28x28x256_S16x14x2x14x2x256) slices_S16x14x2x14x2x256_S16x14x1x14x1x256_0_0_0_0_0_0) shapeCasts_S16x14x1x14x1x256_S16x14x14x256)
        (sitofp (F := Ideal) .f32 (constantI S_ 32 0#32)) pads_S16x14x14x256_S16x15x15x256_000_010_010_000 h_S_ := by
    subst hy
    after_reads_simp
    rfl
  rw [e]
  pointwise
  exact dite_pad y b _ _ c (by omega) _ _ (fun _ => by simp only []; omega) (fun _ => by simp only []; omega) sitofp_zero

/-- The odd rows, odd columns, padded. -/
theorem phase3_2 (W : Valuation τ sig (Elt Ideal)) (y : Vec Ideal S16x28x28x256 .f32) (hy : W (Proc.devRef .tc main_v58) = y)
    (b : Fin 16) (r s : Fin 15) (c : Fin 256) :
    (joined3 W (Proc.devRef .tc main_v68) : Vec Ideal S16x15x15x256 .f32) (ix4 b r s c) = padRead y b (2 * r) (2 * s) c := by
  have e : (joined3 W (Proc.devRef .tc main_v68) : Vec Ideal S16x15x15x256 .f32)
      = pad S16x15x15x256 ![0, 1, 1, 0] ![0, 0, 0, 0] ![0, 0, 0, 0] (shapeCast S16x14x14x256 (extractStridedSlice S16x14x1x14x1x256 ![0, 0, 1, 0, 1, 0]
      (shapeCast S16x14x2x14x2x256 y shapeCasts_S16x28x28x256_S16x14x2x14x2x256) slices_S16x14x2x14x2x256_S16x14x1x14x1x256_0_0_1_0_1_0) shapeCasts_S16x14x1x14x1x256_S16x14x14x256)
        (sitofp (F := Ideal) .f32 (constantI S_ 32 0#32)) pads_S16x14x14x256_S16x15x15x256_000_100_100_000 h_S_ := by
    subst hy
    after_reads_simp
    rfl
  rw [e]
  pointwise
  exact dite_pad y b _ _ c (by omega) _ _ (fun _ => by simp only []; omega) (fun _ => by simp only []; omega) sitofp_zero

/-- The odd rows, even columns, padded. -/
theorem phase3_3 (W : Valuation τ sig (Elt Ideal)) (y : Vec Ideal S16x28x28x256 .f32) (hy : W (Proc.devRef .tc main_v58) = y)
    (b : Fin 16) (r s : Fin 15) (c : Fin 256) :
    (joined3 W (Proc.devRef .tc main_v71) : Vec Ideal S16x15x15x256 .f32) (ix4 b r s c) = padRead y b (2 * r) (2 * s + 1) c := by
  have e : (joined3 W (Proc.devRef .tc main_v71) : Vec Ideal S16x15x15x256 .f32)
      = pad S16x15x15x256 ![0, 1, 0, 0] ![0, 0, 1, 0] ![0, 0, 0, 0] (shapeCast S16x14x14x256 (extractStridedSlice S16x14x1x14x1x256 ![0, 0, 1, 0, 0, 0]
      (shapeCast S16x14x2x14x2x256 y shapeCasts_S16x28x28x256_S16x14x2x14x2x256) slices_S16x14x2x14x2x256_S16x14x1x14x1x256_0_0_1_0_0_0) shapeCasts_S16x14x1x14x1x256_S16x14x14x256)
        (sitofp (F := Ideal) .f32 (constantI S_ 32 0#32)) pads_S16x14x14x256_S16x15x15x256_000_100_010_000 h_S_ := by
    subst hy
    after_reads_simp
    rfl
  rw [e]
  pointwise
  exact dite_pad y b _ _ c (by omega) _ _ (fun _ => by simp only []; omega) (fun _ => by simp only []; omega) sitofp_zero

/-- The operand of the call, at an index: the pixel, or the padding, that the parity layout puts there. -/
theorem host3_z (W : Valuation τ sig (Elt Ideal)) (y : Vec Ideal S16x28x28x256 .f32) (hy : W (Proc.devRef .tc main_v58) = y)
    (b : Fin 16) (r s : Fin 15) (k : Fin 1024) :
    (after hostOps3_8 (joined3 W) (Proc.devRef .tc main_v72) : Vec Ideal S16x15x15x1024 .f32) (ix4 b r s k)
      = padRead y b (2 * r + 1 - k / 512) (2 * s + k % 512 / 256) (⟨k % 256, Nat.mod_lt _ (by omega)⟩ : Fin 256) := by
  rw [cat3]
  pointwise
  by_cases h0 : (k : ℕ) < 256
  · rw [dif_pos h0, phase3_0 W y hy]
    exact padRead_congr y b (by omega) (by omega) (by simp only []; omega)
  rw [dif_neg h0]
  by_cases h1 : (k : ℕ) - 256 < 256
  · rw [dif_pos h1, phase3_1 W y hy]
    exact padRead_congr y b (by omega) (by omega) (by simp only []; omega)
  rw [dif_neg h1]
  by_cases h2 : (k : ℕ) - 256 - 256 < 256
  · rw [dif_pos h2, phase3_2 W y hy]
    exact padRead_congr y b (by omega) (by omega) (by simp only []; omega)
  rw [dif_neg h2, phase3_3 W y hy]
  exact padRead_congr y b (by omega) (by omega) (by simp only []; omega)

/-- The weights as a matrix. -/
theorem host3_w (V : Valuation τ sig (Elt Ideal)) (w : Vec Ideal S256x256x4x4 .f32) (hw : V (Proc.devRef .tc main_arg7) = w)
    (k : Fin 4096) (o : Fin 256) :
    (after hostOps3_8 V (Proc.devRef .tc main_v74) : Vec Ideal S4096x256 .f32) (ix2 k o)
      = w (ix4 o (⟨k % 256, Nat.mod_lt _ (by omega)⟩ : Fin 256) ⟨k / 1024, by omega⟩ ⟨k / 256 % 4, Nat.mod_lt _ (by omega)⟩) := by
  have e : (after hostOps3_8 V (Proc.devRef .tc main_v74) : Vec Ideal S4096x256 .f32)
      = shapeCast S4096x256 (transpose S4x4x256x256 [2, 3, 1, 0] w transposes_S256x256x4x4_S4x4x256x256_2_3_1_0) shapeCasts_S4x4x256x256_S4096x256 := by
    subst hw
    after_reads_simp
    rfl
  rw [e]
  pointwise

/-- The bias as a row. -/
theorem host3_b (V : Valuation τ sig (Elt Ideal)) (v : Vec Ideal S256 .f32) (hv : V (Proc.devRef .tc main_arg8) = v) (o : Fin 256) :
    (after hostOps3_8 V (Proc.devRef .tc main_v75) : Vec Ideal S1x256 .f32) (ix2 0 o) = v (ix1 o) := by
  have e : (after hostOps3_8 V (Proc.devRef .tc main_v75) : Vec Ideal S1x256 .f32) = shapeCast S1x256 v shapeCasts_S256_S1x256 := by
    subst hv
    after_reads_simp
    rfl
  rw [e]
  pointwise

end Cert.HostRun

end
-- ==== Proof.Block0.lean ====
/-
  What one block of the first convolution computes: from the sixteen shifted images side by side in the channels and the
  weights by rows, the strided convolution of the image and the rectifier.
-/
module

public import proofs.«01_k».proof.Proof.Gen.KernelIdeal.Frame
public import proofs.«01_k».proof.Proof.Taps
public import Idealize.ShloMosaic.Lib.Pipeline.ValueKit
public import Idealize.ShloMosaic.Lib.Pointwise

@[expose] public section

set_option maxRecDepth 16384

noncomputable section

namespace Cert.Block

open Idealize.ShloMosaic Cert.KernelIdeal Cert.KernelIdeal.Gen Cert.Spec

/-- A sum over 48 terms by the kernel's rows, columns and channels. -/
theorem sum_48 (f : Fin 48 → EReal) (g : Fin 4 → Fin 4 → Fin 3 → EReal)
    (h : ∀ (kh kw : Fin 4) (c : Fin 3), f ⟨kh * 12 + (kw * 3 + c), by omega⟩ = g kh kw c) :
    ∑ k, f k = ∑ kh, ∑ kw, ∑ c, g kh kw c := by
  rw [Fin.sum_univ_tiles 4 12 rfl f]
  refine Finset.sum_congr rfl fun kh _ => ?_
  rw [Fin.sum_univ_tiles 4 3 rfl]
  exact Finset.sum_congr rfl fun kw _ => Finset.sum_congr rfl fun c _ => h kh kw c

/-- The first layer's body: with the shifted images of `y`'s image `b` side by side (`hz`), the weights as a matrix whose
    rows run over the kernel's rows, columns and channels (`hw`) and the bias as a row (`hb`), it stores the rectified
    convolution. -/
theorem out0 {B : ℕ} (y : Img B 224 224 3) (w : Img 64 3 4 4) (bias : (⟨1, ![64]⟩ : Shape).Idx → EReal) (b : Fin B)
    (x0 : Vec Ideal S1x112x112x48 .f32) (x1 : Vec Ideal S48x64 .f32) (x2 : Vec Ideal S1x64 .f32)
    (hz : ∀ (p q : Fin 112) (k : Fin 48), x0 (ix4 0 p q k)
      = padRead y b (2 * p + k / 12) (2 * q + k / 3 % 4) (⟨k % 3, Nat.mod_lt _ (by omega)⟩ : Fin 3))
    (hw : ∀ (k : Fin 48) (o : Fin 64), x1 (ix2 k o)
      = w (ix4 o (⟨k % 3, Nat.mod_lt _ (by omega)⟩ : Fin 3) ⟨k / 12, by omega⟩ ⟨k / 3 % 4, Nat.mod_lt _ (by omega)⟩))
    (hb : ∀ o : Fin 64, x2 (ix2 0 o) = bias (ix1 o)) (i : Fin 1) (p q : Fin 112) (o : Fin 64) :
    out0_3 (F := Ideal) x0 x1 x2 (ix4 i p q o) = relu (conv 112 112 y w bias) (ix4 b p q o) := by
  unfold out0_3
  canon_tiles x h
  obtain rfl : x = ix4 i p q o := by
    funext a
    fin_cases a
    exacts [Fin.ext h0.symm, Fin.ext h1.symm, Fin.ext h2.symm, Fin.ext h3.symm]
  clear h0 h1 h2 h3
  open_payloads
  pointwise
  rw [relu_at, conv_at]
  refine congrArg (max · 0) ?_
  refine Ideal.add_congr ?_ (hb o)
  refine sum_48 _ (fun kh kw c => padRead y b (2 * p + kh) (2 * q + kw) c * w (ix4 o c kh kw)) fun kh kw c => ?_
  refine (congrArg₂ (· * ·) (hz _ _ _) (hw _ _)).trans ?_
  refine congrArg₂ (· * ·) (padRead_congr y b ?_ ?_ ?_) (weight_congr w rfl ?_ ?_ ?_)
  all_goals (dsimp only; omega)

end Cert.Block

end
-- ==== Proof.Arr0.lean ====
/-
  The array the first convolution leaves, one image per grid point.
-/
module

public import proofs.«01_k».proof.Proof.Block0

@[expose] public section

set_option maxRecDepth 16384

noncomputable section

namespace Cert.Block

open Idealize.ShloMosaic Idealize.ShloMosaic.TcCoe Cert.KernelIdeal Cert.KernelIdeal.Gen Cert.Spec
open Idealize.ShloMosaic.Pipeline (Dat Cfg Window)

/-- Grid point `t` handles image `t`; the weights and the bias are the same at every point. -/
theorem idx0 : ∀ t : Fin cfg0.N, win0_0.index t = ![t.val, 0, 0, 0] ∧ win0_1.index t = ![0, 0] ∧ win0_2.index t = ![0, 0]
    ∧ win0_3.index t = ![t.val, 0, 0, 0] := (by decide +kernel : ∀ t : Fin grid0.N, _)

set_option maxHeartbeats 2000000 in
/-- What the first call leaves, from what it finds. -/
theorem arr0 (V : (c : Dev nD) → (b : Ref sig .tc) → Buf (Elt Ideal) ((c : Thread nD τ).loc b)) (c : Dev nD)
    (y : Img 16 224 224 3) (w : Img 64 3 4 4) (bias : (⟨1, ![64]⟩ : Shape).Idx → EReal)
    (hz : ∀ (b : Fin 16) (p q : Fin 112) (k : Fin 48), (V c main_v18 : Vec Ideal S16x112x112x48 .f32) (ix4 b p q k)
      = padRead y b (2 * p + k / 12) (2 * q + k / 3 % 4) (⟨k % 3, Nat.mod_lt _ (by omega)⟩ : Fin 3))
    (hw : ∀ (k : Fin 48) (o : Fin 64), (V c main_v20 : Vec Ideal S48x64 .f32) (ix2 k o)
      = w (ix4 o (⟨k % 3, Nat.mod_lt _ (by omega)⟩ : Fin 3) ⟨k / 12, by omega⟩ ⟨k / 3 % 4, Nat.mod_lt _ (by omega)⟩))
    (hb : ∀ o : Fin 64, (V c main_v21 : Vec Ideal S1x64 .f32) (ix2 0 o) = bias (ix1 o)) :
    (dat0 V c).arrAt 3 cfg0.N = relu (conv 112 112 y w bias) := by
  refine (dat0 V c).arrAt_eq_of_covers 3 _ (by decide +kernel) fun t hf j => ?_
  have ht : t.val < 16 := t.isLt
  blk_simp
  rw [after0_3]
  idx_vars j
  refine (out0 y w bias ⟨t.val, ht⟩ _ _ _ ?_ ?_ ?_ _ _ _ _).trans ?_
  · intro p q k
    refine Eq.trans ?_ (hz ⟨t.val, ht⟩ p q k)
    blk_ext [iblk0, idx0 t]
  · intro k o
    refine Eq.trans ?_ (hw k o)
    blk_ext [iblk0, idx0 t]
  · intro o
    refine Eq.trans ?_ (hb o)
    blk_ext [iblk0, idx0 t]
  · blk_ext [idx0 t]

end Cert.Block

end
-- ==== Proof.Block1.lean ====
/-
  What one block of the second convolution computes: from one image in the phase layout (the even and the odd rows and
  columns apart) and the weights by rows, the strided convolution of that image and the rectifier.
-/
module

public import proofs.«01_k».proof.Proof.Gen.KernelIdeal.Frame
public import proofs.«01_k».proof.Proof.Taps
public import Idealize.ShloMosaic.Lib.Pipeline.ValueKit
public import Idealize.ShloMosaic.Lib.Pointwise

@[expose] public section

set_option maxRecDepth 16384

noncomputable section

namespace Cert.Block

open Idealize.ShloMosaic Cert.KernelIdeal Cert.KernelIdeal.Gen Cert.Spec

set_option maxHeartbeats 2000000 in
/-- The second layer's body: with the image `b` of `y` in the phase layout (`hz`), the weights as a matrix whose rows run
    over the kernel's rows, columns and channels (`hw`) and the bias as a row (`hb`), it stores the rectified convolution. -/
theorem out1 {B : ℕ} (y : Img B 112 112 64) (w : Img 128 64 4 4) (bias : (⟨1, ![128]⟩ : Shape).Idx → EReal) (b : Fin B)
    (x0 : Vec Ideal S1x57x57x256 .f32) (x1 : Vec Ideal S1024x128 .f32) (x2 : Vec Ideal S1x128 .f32)
    (hz : ∀ (r s : Fin 57) (k : Fin 256), x0 (ix4 0 r s k)
      = padRead y b (2 * r + 1 - k / 128) (2 * s + k % 128 / 64) (⟨k % 64, Nat.mod_lt _ (by omega)⟩ : Fin 64))
    (hw : ∀ (k : Fin 1024) (o : Fin 128), x1 (ix2 k o)
      = w (ix4 o (⟨k % 64, Nat.mod_lt _ (by omega)⟩ : Fin 64) ⟨k / 256, by omega⟩ ⟨k / 64 % 4, Nat.mod_lt _ (by omega)⟩))
    (hb : ∀ o : Fin 128, x2 (ix2 0 o) = bias (ix1 o)) (i : Fin 1) (p q : Fin 56) (o : Fin 128) :
    out1_3 (F := Ideal) x0 x1 x2 (ix4 i p q o) = relu (conv 56 56 y w bias) (ix4 b p q o) := by
  unfold out1_3
  canon_tiles x h
  obtain rfl : x = ix4 i p q o := by
    funext a
    fin_cases a
    exacts [Fin.ext h0.symm, Fin.ext h1.symm, Fin.ext h2.symm, Fin.ext h3.symm]
  clear h0 h1 h2 h3
  open_payloads
  pointwise
  rw [relu_at, conv_at]
  refine congrArg (max · 0) ?_
  refine Ideal.add_congr ?_ (hb o)
  refine sum_pairs (fun kh kw => tap y w b p q o kh kw) ?_ ?_ ?_ ?_ ?_ ?_ ?_ ?_
  all_goals refine tap_pair y w b p q o _ _ _ rfl _ (fun c => ?_) (fun c => ?_)
  all_goals
    refine (congrArg₂ (· * ·) (hz _ _ _) (hw _ _)).trans ?_
    refine congrArg₂ (· * ·) (padRead_congr y b ?_ ?_ ?_) (weight_congr w rfl ?_ ?_ ?_)
    all_goals (simp only [Fin.isValue, Fin.coe_ofNat_eq_mod]; omega)

end Cert.Block

end
-- ==== Proof.Arr1.lean ====
/-
  The array the second convolution leaves, one image per grid point.
-/
module

public import proofs.«01_k».proof.Proof.Block1

@[expose] public section

set_option maxRecDepth 16384

noncomputable section

namespace Cert.Block

open Idealize.ShloMosaic Idealize.ShloMosaic.TcCoe Cert.KernelIdeal Cert.KernelIdeal.Gen Cert.Spec
open Idealize.ShloMosaic.Pipeline (Dat Cfg Window)

/-- Grid point `t` handles image `t`; the weights and the bias are the same at every point. -/
theorem idx1 : ∀ t : Fin cfg1.N, win1_0.index t = ![t.val, 0, 0, 0] ∧ win1_1.index t = ![0, 0] ∧ win1_2.index t = ![0, 0]
    ∧ win1_3.index t = ![t.val, 0, 0, 0] := (by decide +kernel : ∀ t : Fin grid1.N, _)

set_option maxHeartbeats 2000000 in
/-- What the second call leaves, from what it finds. -/
theorem arr1 (V : (c : Dev nD) → (b : Ref sig .tc) → Buf (Elt Ideal) ((c : Thread nD τ).loc b)) (c : Dev nD)
    (y : Img 16 112 112 64) (w : Img 128 64 4 4) (bias : (⟨1, ![128]⟩ : Shape).Idx → EReal)
    (hz : ∀ (b : Fin 16) (r s : Fin 57) (k : Fin 256), (V c main_v36 : Vec Ideal S16x57x57x256 .f32) (ix4 b r s k)
      = padRead y b (2 * r + 1 - k / 128) (2 * s + k % 128 / 64) (⟨k % 64, Nat.mod_lt _ (by omega)⟩ : Fin 64))
    (hw : ∀ (k : Fin 1024) (o : Fin 128), (V c main_v38 : Vec Ideal S1024x128 .f32) (ix2 k o)
      = w (ix4 o (⟨k % 64, Nat.mod_lt _ (by omega)⟩ : Fin 64) ⟨k / 256, by omega⟩ ⟨k / 64 % 4, Nat.mod_lt _ (by omega)⟩))
    (hb : ∀ o : Fin 128, (V c main_v39 : Vec Ideal S1x128 .f32) (ix2 0 o) = bias (ix1 o)) :
    (dat1 V c).arrAt 3 cfg1.N = relu (conv 56 56 y w bias) := by
  refine (dat1 V c).arrAt_eq_of_covers 3 _ (by decide +kernel) fun t hf j => ?_
  have ht : t.val < 16 := t.isLt
  blk_simp
  rw [after1_3]
  idx_vars j
  refine (out1 y w bias ⟨t.val, ht⟩ _ _ _ ?_ ?_ ?_ _ _ _ _).trans ?_
  · intro r s k
    refine Eq.trans ?_ (hz ⟨t.val, ht⟩ r s k)
    blk_ext [iblk1, idx1 t]
  · intro k o
    refine Eq.trans ?_ (hw k o)
    blk_ext [iblk1, idx1 t]
  · intro o
    refine Eq.trans ?_ (hb o)
    blk_ext [iblk1, idx1 t]
  · blk_ext [idx1 t]

end Cert.Block

end
-- ==== Proof.Block2.lean ====
/-
  What one block of the third convolution computes: from one image in the phase layout (the even and the odd rows and
  columns apart) and the weights by rows, the strided convolution of that image and the rectifier.
-/
module

public import proofs.«01_k».proof.Proof.Gen.KernelIdeal.Frame
public import proofs.«01_k».proof.Proof.Taps
public import Idealize.ShloMosaic.Lib.Pipeline.ValueKit
public import Idealize.ShloMosaic.Lib.Pointwise

@[expose] public section

set_option maxRecDepth 16384

noncomputable section

namespace Cert.Block

open Idealize.ShloMosaic Cert.KernelIdeal Cert.KernelIdeal.Gen Cert.Spec

set_option maxHeartbeats 2000000 in
/-- The third layer's body: with the image `b` of `y` in the phase layout (`hz`), the weights as a matrix whose rows run
    over the kernel's rows, columns and channels (`hw`) and the bias as a row (`hb`), it stores the rectified convolution. -/
theorem out2 {B : ℕ} (y : Img B 56 56 128) (w : Img 256 128 4 4) (bias : (⟨1, ![256]⟩ : Shape).Idx → EReal) (b : Fin B)
    (x0 : Vec Ideal S1x29x29x512 .f32) (x1 : Vec Ideal S2048x256 .f32) (x2 : Vec Ideal S1x256 .f32)
    (hz : ∀ (r s : Fin 29) (k : Fin 512), x0 (ix4 0 r s k)
      = padRead y b (2 * r + 1 - k / 256) (2 * s + k % 256 / 128) (⟨k % 128, Nat.mod_lt _ (by omega)⟩ : Fin 128))
    (hw : ∀ (k : Fin 2048) (o : Fin 256), x1 (ix2 k o)
      = w (ix4 o (⟨k % 128, Nat.mod_lt _ (by omega)⟩ : Fin 128) ⟨k / 512, by omega⟩ ⟨k / 128 % 4, Nat.mod_lt _ (by omega)⟩))
    (hb : ∀ o : Fin 256, x2 (ix2 0 o) = bias (ix1 o)) (i : Fin 1) (p q : Fin 28) (o : Fin 256) :
    out2_3 (F := Ideal) x0 x1 x2 (ix4 i p q o) = relu (conv 28 28 y w bias) (ix4 b p q o) := by
  unfold out2_3
  canon_tiles x h
  obtain rfl : x = ix4 i p q o := by
    funext a
    fin_cases a
    exacts [Fin.ext h0.symm, Fin.ext h1.symm, Fin.ext h2.symm, Fin.ext h3.symm]
  clear h0 h1 h2 h3
  open_payloads
  pointwise
  rw [relu_at, conv_at]
  refine congrArg (max · 0) ?_
  refine Ideal.add_congr ?_ (hb o)
  refine sum_eight (fun kh kw => tap y w b p q o kh kw) ?_ ?_ ?_ ?_ ?_ ?_ ?_ ?_
  all_goals refine tap_pair y w b p q o _ _ _ rfl _ (fun c => ?_) (fun c => ?_)
  all_goals
    refine (congrArg₂ (· * ·) (hz _ _ _) (hw _ _)).trans ?_
    refine congrArg₂ (· * ·) (padRead_congr y b ?_ ?_ ?_) (weight_congr w rfl ?_ ?_ ?_)
    all_goals (simp only [Fin.isValue, Fin.coe_ofNat_eq_mod]; omega)

end Cert.Block

end
-- ==== Proof.Arr2.lean ====
/-
  The array the third convolution leaves, one image per grid point.
-/
module

public import proofs.«01_k».proof.Proof.Block2

@[expose] public section

set_option maxRecDepth 16384

noncomputable section

namespace Cert.Block

open Idealize.ShloMosaic Idealize.ShloMosaic.TcCoe Cert.KernelIdeal Cert.KernelIdeal.Gen Cert.Spec
open Idealize.ShloMosaic.Pipeline (Dat Cfg Window)

/-- Grid point `t` handles image `t`; the weights and the bias are the same at every point. -/
theorem idx2 : ∀ t : Fin cfg2.N, win2_0.index t = ![t.val, 0, 0, 0] ∧ win2_1.index t = ![0, 0] ∧ win2_2.index t = ![0, 0]
    ∧ win2_3.index t = ![t.val, 0, 0, 0] := (by decide +kernel : ∀ t : Fin grid2.N, _)

set_option maxHeartbeats 2000000 in
/-- What the third call leaves, from what it finds. -/
theorem arr2 (V : (c : Dev nD) → (b : Ref sig .tc) → Buf (Elt Ideal) ((c : Thread nD τ).loc b)) (c : Dev nD)
    (y : Img 16 56 56 128) (w : Img 256 128 4 4) (bias : (⟨1, ![256]⟩ : Shape).Idx → EReal)
    (hz : ∀ (b : Fin 16) (r s : Fin 29) (k : Fin 512), (V c main_v54 : Vec Ideal S16x29x29x512 .f32) (ix4 b r s k)
      = padRead y b (2 * r + 1 - k / 256) (2 * s + k % 256 / 128) (⟨k % 128, Nat.mod_lt _ (by omega)⟩ : Fin 128))
    (hw : ∀ (k : Fin 2048) (o : Fin 256), (V c main_v56 : Vec Ideal S2048x256 .f32) (ix2 k o)
      = w (ix4 o (⟨k % 128, Nat.mod_lt _ (by omega)⟩ : Fin 128) ⟨k / 512, by omega⟩ ⟨k / 128 % 4, Nat.mod_lt _ (by omega)⟩))
    (hb : ∀ o : Fin 256, (V c main_v57 : Vec Ideal S1x256 .f32) (ix2 0 o) = bias (ix1 o)) :
    (dat2 V c).arrAt 3 cfg2.N = relu (conv 28 28 y w bias) := by
  refine (dat2 V c).arrAt_eq_of_covers 3 _ (by decide +kernel) fun t hf j => ?_
  have ht : t.val < 16 := t.isLt
  blk_simp
  rw [after2_3]
  idx_vars j
  refine (out2 y w bias ⟨t.val, ht⟩ _ _ _ ?_ ?_ ?_ _ _ _ _).trans ?_
  · intro r s k
    refine Eq.trans ?_ (hz ⟨t.val, ht⟩ r s k)
    blk_ext [iblk2, idx2 t]
  · intro k o
    refine Eq.trans ?_ (hw k o)
    blk_ext [iblk2, idx2 t]
  · intro o
    refine Eq.trans ?_ (hb o)
    blk_ext [iblk2, idx2 t]
  · blk_ext [idx2 t]

end Cert.Block

end
-- ==== Proof.Block3.lean ====
/-
  What one block of the fourth convolution computes: from one image in the phase layout (the even and the odd rows and
  columns apart) and the weights by rows, the strided convolution of that image.
-/
module

public import proofs.«01_k».proof.Proof.Gen.KernelIdeal.Frame
public import proofs.«01_k».proof.Proof.Taps
public import Idealize.ShloMosaic.Lib.Pipeline.ValueKit
public import Idealize.ShloMosaic.Lib.Pointwise

@[expose] public section

set_option maxRecDepth 16384

noncomputable section

namespace Cert.Block

open Idealize.ShloMosaic Cert.KernelIdeal Cert.KernelIdeal.Gen Cert.Spec

set_option maxHeartbeats 2000000 in
/-- The fourth layer's body: with the image `b` of `y` in the phase layout (`hz`), the weights as a matrix whose rows run
    over the kernel's rows, columns and channels (`hw`) and the bias as a row (`hb`), it stores the convolution. -/
theorem out3 {B : ℕ} (y : Img B 28 28 256) (w : Img 256 256 4 4) (bias : (⟨1, ![256]⟩ : Shape).Idx → EReal) (b : Fin B)
    (x0 : Vec Ideal S1x15x15x1024 .f32) (x1 : Vec Ideal S4096x256 .f32) (x2 : Vec Ideal S1x256 .f32)
    (hz : ∀ (r s : Fin 15) (k : Fin 1024), x0 (ix4 0 r s k)
      = padRead y b (2 * r + 1 - k / 512) (2 * s + k % 512 / 256) (⟨k % 256, Nat.mod_lt _ (by omega)⟩ : Fin 256))
    (hw : ∀ (k : Fin 4096) (o : Fin 256), x1 (ix2 k o)
      = w (ix4 o (⟨k % 256, Nat.mod_lt _ (by omega)⟩ : Fin 256) ⟨k / 1024, by omega⟩ ⟨k / 256 % 4, Nat.mod_lt _ (by omega)⟩))
    (hb : ∀ o : Fin 256, x2 (ix2 0 o) = bias (ix1 o)) (i : Fin 1) (p q : Fin 14) (o : Fin 256) :
    out3_3 (F := Ideal) x0 x1 x2 (ix4 i p q o) = conv 14 14 y w bias (ix4 b p q o) := by
  unfold out3_3
  canon_tiles x h
  obtain rfl : x = ix4 i p q o := by
    funext a
    fin_cases a
    exacts [Fin.ext h0.symm, Fin.ext h1.symm, Fin.ext h2.symm, Fin.ext h3.symm]
  clear h0 h1 h2 h3
  open_payloads
  pointwise
  rw [conv_at]
  skip
  refine Ideal.add_congr ?_ (hb o)
  refine sum_sixteen (fun kh kw => tap y w b p q o kh kw) ?_ ?_ ?_ ?_ ?_ ?_ ?_ ?_ ?_ ?_ ?_ ?_ ?_ ?_ ?_ ?_
  all_goals refine Finset.sum_congr rfl fun c _ => ?_
  all_goals
    refine (congrArg₂ (· * ·) (hz _ _ _) (hw _ _)).trans ?_
    refine congrArg₂ (· * ·) (padRead_congr y b ?_ ?_ ?_) (weight_congr w rfl ?_ ?_ ?_)
    all_goals (simp only [Fin.isValue, Fin.coe_ofNat_eq_mod]; omega)

end Cert.Block

end
-- ==== Proof.Arr3.lean ====
/-
  The array the fourth convolution leaves, one image per grid point.
-/
module

public import proofs.«01_k».proof.Proof.Block3

@[expose] public section

set_option maxRecDepth 16384

noncomputable section

namespace Cert.Block

open Idealize.ShloMosaic Idealize.ShloMosaic.TcCoe Cert.KernelIdeal Cert.KernelIdeal.Gen Cert.Spec
open Idealize.ShloMosaic.Pipeline (Dat Cfg Window)

/-- Grid point `t` handles image `t`; the weights and the bias are the same at every point. -/
theorem idx3 : ∀ t : Fin cfg3.N, win3_0.index t = ![t.val, 0, 0, 0] ∧ win3_1.index t = ![0, 0] ∧ win3_2.index t = ![0, 0]
    ∧ win3_3.index t = ![t.val, 0, 0, 0] := (by decide +kernel : ∀ t : Fin grid3.N, _)

set_option maxHeartbeats 2000000 in
/-- What the fourth call leaves, from what it finds. -/
theorem arr3 (V : (c : Dev nD) → (b : Ref sig .tc) → Buf (Elt Ideal) ((c : Thread nD τ).loc b)) (c : Dev nD)
    (y : Img 16 28 28 256) (w : Img 256 256 4 4) (bias : (⟨1, ![256]⟩ : Shape).Idx → EReal)
    (hz : ∀ (b : Fin 16) (r s : Fin 15) (k : Fin 1024), (V c main_v72 : Vec Ideal S16x15x15x1024 .f32) (ix4 b r s k)
      = padRead y b (2 * r + 1 - k / 512) (2 * s + k % 512 / 256) (⟨k % 256, Nat.mod_lt _ (by omega)⟩ : Fin 256))
    (hw : ∀ (k : Fin 4096) (o : Fin 256), (V c main_v74 : Vec Ideal S4096x256 .f32) (ix2 k o)
      = w (ix4 o (⟨k % 256, Nat.mod_lt _ (by omega)⟩ : Fin 256) ⟨k / 1024, by omega⟩ ⟨k / 256 % 4, Nat.mod_lt _ (by omega)⟩))
    (hb : ∀ o : Fin 256, (V c main_v75 : Vec Ideal S1x256 .f32) (ix2 0 o) = bias (ix1 o)) :
    (dat3 V c).arrAt 3 cfg3.N = conv 14 14 y w bias := by
  refine (dat3 V c).arrAt_eq_of_covers 3 _ (by decide +kernel) fun t hf j => ?_
  have ht : t.val < 16 := t.isLt
  blk_simp
  rw [after3_3]
  idx_vars j
  refine (out3 y w bias ⟨t.val, ht⟩ _ _ _ ?_ ?_ ?_ _ _ _ _).trans ?_
  · intro r s k
    refine Eq.trans ?_ (hz ⟨t.val, ht⟩ r s k)
    blk_ext [iblk3, idx3 t]
  · intro k o
    refine Eq.trans ?_ (hw k o)
    blk_ext [iblk3, idx3 t]
  · intro o
    refine Eq.trans ?_ (hb o)
    blk_ext [iblk3, idx3 t]
  · blk_ext [idx3 t]

end Cert.Block

end
-- ==== Proof.Argmin.lean ====
/-
  Three spellings of "the nearest code": the least value of 256 by a fold, the lowest index that attains it by a second
  fold over the indices, and the row of a matrix picked by a one-hot product.
-/
module

public import proofs.«01_k».proof.Proof.Spec
public import Idealize.ShloMosaic.Lib.SortNet.Extract

@[expose] public section

noncomputable section

namespace Cert.Spec

open Idealize.ShloMosaic

/-- The word of positive infinity is the greatest extended real. -/
theorem ofBits_top : Ideal.ofBits .f32 0x7F800000#32 = ⊤ := by simp [Ideal.ofBits, Ideal.ieee]

/-- The fold by `min` from infinity is the value at `argmin`. -/
theorem fold_min (f : Fin 256 → EReal) : Finset.fold min (Ideal.ofBits .f32 0x7F800000#32) f Finset.univ = f (argmin f) := by
  rw [ofBits_top]
  exact le_antisymm ((Finset.fold_min_le _).2 (.inr ⟨argmin f, Finset.mem_univ _, le_rfl⟩))
    ((Finset.le_fold_min _).2 ⟨le_top, fun l _ => argmin_le f l⟩)

/-- A small number's word reads back as the number. -/
theorem toInt_ofNat (k : ℕ) (h : k ≤ 256) : (BitVec.ofNat 32 k).toInt = k := by
  rw [BitVec.toInt_eq_toNat_of_lt] <;> rw [BitVec.toNat_ofNat, Nat.mod_eq_of_lt (by omega)]
  omega

/-- The fold by the signed minimum over the indices that attain the least value (the others reading 256) is `argmin`. -/
theorem fold_pick (f : Fin 256 → EReal) :
    Finset.fold IntOp.minsi 2147483647#32 (fun k : Fin 256 =>
      if f k = Finset.fold min (Ideal.ofBits .f32 0x7F800000#32) f Finset.univ then BitVec.ofNat 32 (k : ℕ) else 256#32) Finset.univ
      = BitVec.ofNat 32 (argmin f : ℕ) := by
  rw [fold_min]
  apply BitVec.eq_of_toInt_eq
  have hk := (argmin f).isLt
  rw [toInt_ofNat _ (by omega)]
  refine le_antisymm ?_ ?_
  · refine (Finset.fold_op_rel_iff_or (op := IntOp.minsi) (r := fun (a b : BitVec 32) => b.toInt ≤ a.toInt)
      (fun {x y z} => by rw [SortNet.toInt_minsi, min_le_iff]) (c := BitVec.ofNat 32 (argmin f : ℕ))).2 (.inr ⟨argmin f, Finset.mem_univ _, ?_⟩) |>.trans (le_of_eq (toInt_ofNat _ (by omega)))
    rw [if_pos rfl]
  · refine (le_of_eq (toInt_ofNat _ (by omega)).symm).trans ((Finset.fold_op_rel_iff_and (op := IntOp.minsi) (r := fun (a b : BitVec 32) => a.toInt ≤ b.toInt)
      (fun {x y z} => by rw [SortNet.toInt_minsi, le_min_iff]) (c := BitVec.ofNat 32 (argmin f : ℕ))).2 ⟨?_, fun k _ => ?_⟩)
    · rw [toInt_ofNat _ (by omega), show (2147483647#32 : BitVec 32).toInt = 2147483647 from by decide]
      omega
    · rw [toInt_ofNat _ (by omega)]
      by_cases h : f k = f (argmin f)
      · rw [if_pos h, toInt_ofNat _ (by omega)]
        have : argmin f ≤ k := le_of_not_gt fun hlt => absurd (lt_of_lt_argmin f k hlt) (by rw [h]; exact lt_irrefl _)
        exact_mod_cast this
      · rw [if_neg h, show (256#32 : BitVec 32).toInt = 256 from by decide]
        omega

/-- Two small numbers' words are equal when the numbers are. -/
theorem ofNat_inj (a b : Fin 256) : BitVec.ofNat 32 (a : ℕ) = BitVec.ofNat 32 (b : ℕ) ↔ a = b := by
  refine ⟨fun h => Fin.ext ?_, fun h => by rw [h]⟩
  have := congrArg BitVec.toInt h
  rw [toInt_ofNat _ (by omega), toInt_ofNat _ (by omega)] at this
  exact_mod_cast this

/-- The product with a one-hot row is the row of the matrix it points at. -/
theorem sum_onehot (k : Fin 256) (c : Fin 256 → EReal) :
    ∑ x : Fin 256, (FloatOps.sitofp (F := Ideal) .f32
      (BitVec.setWidth 32 (IntOp.cmpi CmpIPredicate.eq (BitVec.ofNat 32 (x : ℕ)) (BitVec.ofNat 32 (k : ℕ)))) : EReal) * c x = c k := by
  have hterm : ∀ x : Fin 256, (FloatOps.sitofp (F := Ideal) .f32
      (BitVec.setWidth 32 (IntOp.cmpi CmpIPredicate.eq (BitVec.ofNat 32 (x : ℕ)) (BitVec.ofNat 32 (k : ℕ)))) : EReal)
      = if x = k then 1 else 0 := by
    intro x
    have hc : IntOp.cmpi CmpIPredicate.eq (BitVec.ofNat 32 (x : ℕ)) (BitVec.ofNat 32 (k : ℕ)) = if x = k then 1#1 else 0#1 := by
      by_cases h : x = k
      · subst h
        simp [IntOp.cmpi]
      · have : BitVec.ofNat 32 (x : ℕ) ≠ BitVec.ofNat 32 (k : ℕ) := fun e => h ((ofNat_inj x k).1 e)
        rw [if_neg h]
        show BitVec.ofBool (BitVec.ofNat 32 (x : ℕ) == BitVec.ofNat 32 (k : ℕ)) = 0#1
        rw [beq_eq_false_iff_ne.2 this]
        rfl
    rw [hc]
    by_cases h : x = k
    · rw [if_pos h, if_pos h]
      show (((BitVec.setWidth 32 1#1).toInt : ℝ) : EReal) = 1
      rw [show (BitVec.setWidth 32 1#1).toInt = 1 from by decide]
      simp
    · rw [if_neg h, if_neg h]
      show (((BitVec.setWidth 32 0#1).toInt : ℝ) : EReal) = 0
      rw [show (BitVec.setWidth 32 0#1).toInt = 0 from by decide]
      simp
  simp only [hterm, ite_mul, one_mul, zero_mul, Finset.sum_ite_eq', Finset.mem_univ, if_true]

end Cert.Spec

end
-- ==== Proof.Block4.lean ====
/-
  What the quantizer's block computes: for each of the 3136 rows, the three codes of residual quantization.
-/
module

public import proofs.«01_k».proof.Proof.Gen.KernelIdeal.Frame
public import proofs.«01_k».proof.Proof.Argmin
public import Idealize.ShloMosaic.Lib.Pipeline.ValueKit
public import Idealize.ShloMosaic.Lib.Pointwise

@[expose] public section

set_option maxRecDepth 16384

noncomputable section

namespace Cert.Block

open Idealize.ShloMosaic Idealize.ShloMosaic.TcCoe Cert.KernelIdeal Cert.KernelIdeal.Gen Cert.Spec
open Idealize.ShloMosaic.Pipeline (Dat Cfg Window)

/-- The constant two of the squared distance, as both programs spell it. -/
abbrev two : EReal := Ideal.ofBits .f32 0x40000000#32

/-- The first step's codes. -/
theorem pay4_at (x0 : Vec Ideal S3136x256 .f32) (x1 : Vec Ideal S1x256x256 .f32) (n : Fin 3136) :
    k4_pay4 (F := Ideal) x0 x1 (ix1 n)
      = BitVec.ofNat 32 (code two (fun d => x0 (ix2 n d)) (fun k d => x1 (ix3 0 k d)) : ℕ) := by
  pointwise [k4_pay4, k4_pay3, k4_pay2]
  exact fold_pick (dist two (fun d => x0 (ix2 n d)) (fun k d => x1 (ix3 0 k d)))

/-- The first step's codes, as the stored row. -/
theorem pay5_at (x0 : Vec Ideal S3136x256 .f32) (x1 : Vec Ideal S1x256x256 .f32) (i : Fin 1) (n : Fin 3136) :
    k4_pay5 (F := Ideal) x0 x1 (ix2 i n)
      = BitVec.ofNat 32 (code two (fun d => x0 (ix2 n d)) (fun k d => x1 (ix3 0 k d)) : ℕ) := by
  pointwise [k4_pay5]
  exact pay4_at x0 x1 n

/-- What the first step leaves of the rows. -/
theorem pay6_at (x0 : Vec Ideal S3136x256 .f32) (x1 : Vec Ideal S1x256x256 .f32) (n : Fin 3136) (d : Fin 256) :
    k4_pay6 (F := Ideal) x0 x1 (ix2 n d) = rest two (fun d => x0 (ix2 n d)) (fun k d => x1 (ix3 0 k d)) d := by
  pointwise [k4_pay6, k4_pay3, k4_pay2]
  rw [pay4_at]
  unfold rest
  exact congrArg (x0 (ix2 n d) - ·) (sum_onehot _ fun k => x1 (ix3 0 k d))

/-- A later step's codes, from the row `r` it starts with and its codebook `cb`. -/
theorem pay10_at (v2 : IVec S3136x256 32) (v34 : FVec Ideal S3136x256 .f32) (v36 : FVec Ideal S256x256 .f32)
    (v38 : FVec Ideal S256 .f32) (v39 : FVec Ideal S3136x256 .f32) (n : Fin 3136) (r : Fin 256 → EReal)
    (cb : Fin 256 → Fin 256 → EReal) (h2 : ∀ k : Fin 256, v2 (ix2 n k) = BitVec.ofNat 32 (k : ℕ)) (h34 : ∀ d : Fin 256, v34 (ix2 n d) = r d)
    (h36 : ∀ k d : Fin 256, v36 (ix2 k d) = cb k d) (h38 : ∀ k : Fin 256, v38 (ix1 k) = ∑ d, cb k d * cb k d)
    (h39 : ∀ d : Fin 256, v39 (ix2 n d) = r d * r d) :
    k4_pay10 (F := Ideal) v2 v34 v36 v38 v39 (ix1 n) = BitVec.ofNat 32 (code two r cb : ℕ) := by
  pointwise [k4_pay10]
  simp only [h2, h34, h36, h38, h39]
  exact fold_pick (dist two r cb)

/-- The distances of the third step, from the row `r` and the codebook `cb` of the second and the codebook of the third. -/
theorem pay12_at (v2 : IVec S3136x256 32) (v34 : FVec Ideal S3136x256 .f32) (v36 : FVec Ideal S256x256 .f32)
    (v38 : FVec Ideal S256 .f32) (v39 : FVec Ideal S3136x256 .f32) (x : Vec Ideal S1x256x256 .f32) (n : Fin 3136) (r : Fin 256 → EReal)
    (cb : Fin 256 → Fin 256 → EReal) (h2 : ∀ k : Fin 256, v2 (ix2 n k) = BitVec.ofNat 32 (k : ℕ)) (h34 : ∀ d : Fin 256, v34 (ix2 n d) = r d)
    (h36 : ∀ k d : Fin 256, v36 (ix2 k d) = cb k d) (h38 : ∀ k : Fin 256, v38 (ix1 k) = ∑ d, cb k d * cb k d)
    (h39 : ∀ d : Fin 256, v39 (ix2 n d) = r d * r d) (k : Fin 256) :
    k4_pay12 (F := Ideal) v2 v34 v36 v38 v39 x (ix2 n k) = dist two (rest two r cb) (fun k d => x (ix3 0 k d)) k := by
  pointwise [k4_pay12]
  rw [pay10_at v2 v34 v36 v38 v39 n r cb h2 h34 h36 h38 h39]
  have hr : ∀ d : Fin 256, r d - ∑ k : Fin 256, (FloatOps.sitofp (F := Ideal) .f32
      (BitVec.setWidth 32 (IntOp.cmpi CmpIPredicate.eq (BitVec.ofNat 32 (k : ℕ)) (BitVec.ofNat 32 (code two r cb : ℕ)))) : EReal) * cb k d
      = rest two r cb d := fun d => congrArg (r d - ·) (sum_onehot _ fun k => cb k d)
  simp only [h2, h34, h36, hr]
  rfl

/-- The last step's codes, from its distances. -/
theorem pay1_at (v2 : IVec S3136x256 32) (v81 : FVec Ideal S3136x256 .f32) (i : Fin 1) (n : Fin 3136) (f : Fin 256 → EReal)
    (h2 : ∀ k : Fin 256, v2 (ix2 n k) = BitVec.ofNat 32 (k : ℕ)) (hf : ∀ k : Fin 256, v81 (ix2 n k) = f k) :
    k4_pay1 (F := Ideal) v2 v81 (ix2 i n) = BitVec.ofNat 32 (argmin f : ℕ) := by
  pointwise [k4_pay1]
  simp only [h2, hf]
  exact fold_pick f

/-- The block: row `i` of the result is the codes of step `i`. -/
theorem out4 (x0 : Vec Ideal S3136x256 .f32) (x1 : Vec Ideal S3x256x256 .f32) (i : Fin 3) (n : Fin 3136) :
    out4_2 (F := Ideal) x0 x1 (ix2 i n) = BitVec.ofNat 32 (codes two x1 (fun d => x0 (ix2 n d)) i : ℕ) := by
  have h2 : ∀ k : Fin 256, k4_pay13 (F := Ideal) x0 x1 (ix2 n k) = BitVec.ofNat 32 (k : ℕ) := fun k => by pointwise [k4_pay13]
  have h34 : ∀ d : Fin 256, k4_pay14 (F := Ideal) x0 x1 (ix2 n d) = rest two (fun d => x0 (ix2 n d)) (book x1 0) d := fun d => by
    unfold k4_pay14
    rw [pay6_at]
    refine congrFun (congrArg₂ (rest two) (funext fun d => ?_) (funext fun k => funext fun d => ?_)) d
    · pointwise
    · pointwise [book]
  have h36 : ∀ k d : Fin 256, k4_pay15 (F := Ideal) x0 x1 (ix2 k d) = book x1 1 k d := fun k d => by pointwise [k4_pay15, k4_pay7, book]
  have h38 : ∀ k : Fin 256, k4_pay16 (F := Ideal) x0 x1 (ix1 k) = ∑ d, book x1 1 k d * book x1 1 k d := fun k => by
    pointwise [k4_pay16, k4_pay8, k4_pay7, book]
  have h39 : ∀ d : Fin 256, k4_pay17 (F := Ideal) x0 x1 (ix2 n d)
      = rest two (fun d => x0 (ix2 n d)) (book x1 0) d * rest two (fun d => x0 (ix2 n d)) (book x1 0) d := fun d => by
    rw [← h34]
    pointwise [k4_pay17, k4_pay9, k4_pay14]
  have hx : ∀ x : S1x3136.Idx, (ix2 i n 1 : ℕ) = (x 1 : ℕ) → x = ix2 0 n := fun x h => by
    funext a
    fin_cases a
    · exact Fin.ext (Nat.lt_one_iff.1 (x 0).isLt)
    · exact Fin.ext h.symm
  unfold out4_2
  canon_tiles x h
  case piece0 =>
    obtain rfl : i = 2 := Fin.ext (show (i : ℕ) = 2 by have h : (i : ℕ) = 2 + (x 0 : ℕ) := h0; omega)
    rw [hx x h1]
    exact pay1_at _ _ 0 n (dist two (rest two (rest two (fun d => x0 (ix2 n d)) (book x1 0)) (book x1 1)) (book x1 2)) h2 fun k =>
      (pay12_at _ _ _ _ _ _ n _ (book x1 1) h2 h34 h36 h38 h39 k).trans
        (congrFun (congrArg (dist two _) (funext fun k => funext fun d => by pointwise [book])) k)
  case piece1 =>
    obtain rfl : i = 1 := Fin.ext (show (i : ℕ) = 1 by have h : (i : ℕ) = 1 + (x 0 : ℕ) := h0; omega)
    rw [hx x h1]
    refine Eq.trans ?_ (pay10_at _ _ _ _ _ n _ (book x1 1) h2 h34 h36 h38 h39)
    pointwise [k4_pay11]
  case piece2 =>
    obtain rfl : i = 0 := Fin.ext (show (i : ℕ) = 0 by have h : (i : ℕ) = (x 0 : ℕ) := h0; omega)
    rw [hx x h1, pay5_at]
    refine congrArg (fun k : Fin 256 => BitVec.ofNat 32 (k : ℕ)) (congrArg₂ (code two) (funext fun d => ?_) (funext fun k => funext fun d => ?_))
    · pointwise
      rfl
    · pointwise [book]

/-- The one grid point's blocks are the whole arrays. -/
theorem idx4 : ∀ t : Fin cfg4.N, win4_0.index t = ![0, 0] ∧ win4_1.index t = ![0, 0, 0] ∧ win4_2.index t = ![0, 0] :=
  (by decide +kernel : ∀ t : Fin grid4.N, _)

set_option maxHeartbeats 2000000 in
/-- What the quantizer leaves, from what it finds: row `i` holds step `i`'s code of every row of its operand. -/
theorem arr4 (V : (c : Dev nD) → (b : Ref sig .tc) → Buf (Elt Ideal) ((c : Thread nD τ).loc b)) (c : Dev nD)
    (rows : Vec Ideal S3136x256 .f32) (cbs : Vec Ideal S3x256x256 .f32) (hr : V c main_v77 = rows) (hc : V c main_arg9 = cbs)
    (G : IVec S3x3136 32)
    (hG : ∀ (i : Fin 3) (n : Fin 3136), G (ix2 i n) = BitVec.ofNat 32 (codes two cbs (fun d => rows (ix2 n d)) i : ℕ)) :
    (dat4 V c).arrAt 2 cfg4.N = G := by
  subst hr hc
  refine (dat4 V c).arrAt_eq_of_covers 2 _ (by decide +kernel) fun t hf j => ?_
  blk_simp
  rw [after4_2]
  idx_vars j
  have e0 : (iblk4 V c 0 t : Vec Ideal S3136x256 .f32) = V c main_v77 := by
    funext j
    idx_vars j
    blk_ext [iblk4, idx4 t]
  have e1 : (iblk4 V c 1 t : Vec Ideal S3x256x256 .f32) = V c main_arg9 := by
    funext j
    idx_vars j
    blk_ext [iblk4, idx4 t]
  rw [out4, e0, e1, ← hG]
  blk_ext [idx4 t]

end Cert.Block

end
-- ==== Proof.KernelValue.lean ====
/-
  What each call of the kernel leaves, from the inputs at launch, and the result.
-/
module

public import proofs.«01_k».proof.Proof.Model
public import proofs.«01_k».proof.Proof.Host0
public import proofs.«01_k».proof.Proof.Host1
public import proofs.«01_k».proof.Proof.Host2
public import proofs.«01_k».proof.Proof.Host3
public import proofs.«01_k».proof.Proof.Arr0
public import proofs.«01_k».proof.Proof.Arr1
public import proofs.«01_k».proof.Proof.Arr2
public import proofs.«01_k».proof.Proof.Arr3
public import proofs.«01_k».proof.Proof.Block4

@[expose] public section

set_option maxRecDepth 16384

noncomputable section

namespace Cert.HostRun

open Idealize.ShloMosaic Idealize.ShloMosaic.TcCoe Idealize.ShloMosaic.StableHlo Cert.KernelIdeal Cert.KernelIdeal.Gen Cert.Spec Cert.Block

variable (m : (ℓ : Loc nD τ sig) → Buf (Elt Ideal) ℓ) (ρ : Dev nD → PrngReg) (c : Dev nD)

/-- The first layer's image of the inputs at launch. -/
abbrev img1 : Img 16 112 112 64 :=
  layer1 (m ((c : Thread nD τ).loc main_arg0)) (m ((c : Thread nD τ).loc main_arg1)) (m ((c : Thread nD τ).loc main_arg2))

/-- The second layer's image of the inputs at launch. -/
abbrev img2 : Img 16 56 56 128 := layer2 (img1 m c) (m ((c : Thread nD τ).loc main_arg3)) (m ((c : Thread nD τ).loc main_arg4))

/-- The third layer's image of the inputs at launch. -/
abbrev img3 : Img 16 28 28 256 := layer3 (img2 m c) (m ((c : Thread nD τ).loc main_arg5)) (m ((c : Thread nD τ).loc main_arg6))

/-- The latent image of the inputs at launch. -/
abbrev img4 : Img 16 14 14 256 := layer4 (img3 m c) (m ((c : Thread nD τ).loc main_arg7)) (m ((c : Thread nD τ).loc main_arg8))

/-- The first call leaves the first layer's image. -/
theorem call0 : (W4 m ρ c (Proc.devRef .tc main_v22) : Vec Ideal S16x112x112x64 .f32) = img1 m c :=
  (W4_arr m ρ c 3).trans (arr0 (V3 m ρ) c _ _ _ (host0_z (W0 m ρ c) _ rfl)
    (host0_w (W2 m ρ c) _ (W2_args m ρ c main_arg1 (by decide))) (host0_b (W2 m ρ c) _ (W2_args m ρ c main_arg2 (by decide))))

/-- The second call leaves the second layer's image. -/
theorem call1 : (W14 m ρ c (Proc.devRef .tc main_v40) : Vec Ideal S16x56x56x128 .f32) = img2 m c :=
  (W14_arr m ρ c 3).trans (arr1 (V13 m ρ) c _ _ _ (host1_z (W4 m ρ c) _ (call0 m ρ c))
    (host1_w (W12 m ρ c) _ (W12_args m ρ c main_arg3 (by decide))) (host1_b (W12 m ρ c) _ (W12_args m ρ c main_arg4 (by decide))))

/-- The third call leaves the third layer's image. -/
theorem call2 : (W24 m ρ c (Proc.devRef .tc main_v58) : Vec Ideal S16x28x28x256 .f32) = img3 m c :=
  (W24_arr m ρ c 3).trans (arr2 (V23 m ρ) c _ _ _ (host2_z (W14 m ρ c) _ (call1 m ρ c))
    (host2_w (W22 m ρ c) _ (W22_args m ρ c main_arg5 (by decide))) (host2_b (W22 m ρ c) _ (W22_args m ρ c main_arg6 (by decide))))

/-- The fourth call leaves the latent image. -/
theorem call3 : (W34 m ρ c (Proc.devRef .tc main_v76) : Vec Ideal S16x14x14x256 .f32) = img4 m c :=
  (W34_arr m ρ c 3).trans (arr3 (V33 m ρ) c _ _ _ (host3_z (W24 m ρ c) _ (call2 m ρ c))
    (host3_w (W32 m ρ c) _ (W32_args m ρ c main_arg7 (by decide))) (host3_b (W32 m ρ c) _ (W32_args m ρ c main_arg8 (by decide))))

/-- The latent image as rows, one per pixel of the batch. -/
theorem rows_read (V : Valuation τ sig (Elt Ideal)) (h : Vec Ideal S16x14x14x256 .f32) (hh : V (Proc.devRef .tc main_v76) = h) :
    (after hostOps4 V (Proc.devRef .tc main_v77) : Vec Ideal S3136x256 .f32) = shapeCast S3136x256 h shapeCasts_S16x14x14x256_S3136x256 := by
  subst hh
  after_reads_simp
  rfl

/-- The result is the codes with the pixel first, cut into images. -/
theorem result_read (V : Valuation τ sig (Elt Ideal)) (g : IVec S3x3136 32) (hg : V (Proc.devRef .tc main_v78) = g) :
    (after hostOps5 V (Proc.devRef .tc main_v80) : IVec S16x196x3 32)
      = shapeCast S16x196x3 (transpose S3136x3 [1, 0] g transposes_S3x3136_S3136x3_1_0) shapeCasts_S3136x3_S16x196x3 := by
  subst hg
  after_reads_simp
  rfl

/-- Row `196 b + n` of the latent rows is pixel `n` of image `b`. -/
theorem row_at (h : Vec Ideal S16x14x14x256 .f32) (n : Fin 3136) (d : Fin 256) :
    shapeCast S3136x256 h shapeCasts_S16x14x14x256_S3136x256 (ix2 n d) = latentRow h ⟨n / 196, by omega⟩ ⟨n % 196, Nat.mod_lt _ (by omega)⟩ d := by
  unfold latentRow
  pointwise
  rw [show (⟨n / 14 % 14, Nat.mod_lt _ (by omega)⟩ : Fin 14) = ⟨n % 196 / 14, by omega⟩ from Fin.ext (by simp only []; omega),
    show (⟨n % 14, Nat.mod_lt _ (by omega)⟩ : Fin 14) = ⟨n % 196 % 14, Nat.mod_lt _ (by omega)⟩ from Fin.ext (by simp only []; omega)]

/-- The row of channels of pixel `n` of the batch. -/
def pixelRow (h : Img 16 14 14 256) (n : Fin 3136) : Fin 256 → EReal :=
  latentRow h ⟨n / 196, by omega⟩ ⟨n % 196, Nat.mod_lt _ (by omega)⟩

/-- The codes as the last call leaves them: row `i`, column the pixel of the batch. -/
def flat (h : Img 16 14 14 256) (cbs : Vec Ideal S3x256x256 .f32) : IVec S3x3136 32 := fun j =>
  BitVec.ofNat 32 (codes two cbs (pixelRow h (j 1)) (j 0) : ℕ)

/-- The last call leaves the codes. -/
theorem call4 : (W36 m ρ c (Proc.devRef .tc main_v78) : IVec S3x3136 32) = flat (img4 m c) (m ((c : Thread nD τ).loc main_arg9)) :=
  (W36_arr m ρ c 2).trans (arr4 (V35 m ρ) c _ _ (rows_read (W34 m ρ c) _ (call3 m ρ c)) (W35_args m ρ c main_arg9 (by decide)) _ (fun i n => by
    rw [show (fun d => shapeCast S3136x256 (img4 m c) shapeCasts_S16x14x14x256_S3136x256 (ix2 n d))
      = pixelRow (img4 m c) n from funext fun d => row_at _ n d]
    rfl))

/-- The codes with the pixel first, cut into images, are the answer. -/
theorem flat_answer (h : Img 16 14 14 256) (cbs : Vec Ideal S3x256x256 .f32) :
    shapeCast S16x196x3 (transpose S3136x3 [1, 0] (flat h cbs) transposes_S3x3136_S3136x3_1_0) shapeCasts_S3136x3_S16x196x3
      = answer two h cbs := by
  funext j
  idx_vars j
  pointwise
  rw [answer_at]
  show BitVec.ofNat 32 (codes two cbs (pixelRow h ⟨j0 * 196 + j1, by omega⟩) j2 : ℕ) = _
  unfold pixelRow
  rw [show (⟨(j0 * 196 + j1 : ℕ) / 196, by omega⟩ : Fin 16) = j0 from Fin.ext (by simp only []; omega),
    show (⟨(j0 * 196 + j1 : ℕ) % 196, Nat.mod_lt _ (by omega)⟩ : Fin 196) = j1 from Fin.ext (by simp only []; omega)]

/-- The kernel's result is the answer. -/
theorem kernel_value : (W37 m ρ c (Proc.devRef .tc main_v80) : IVec S16x196x3 32)
    = answer two (img4 m c) (m ((c : Thread nD τ).loc main_arg9)) :=
  (result_read (W36 m ρ c) _ (call4 m ρ c)).trans (flat_answer _ _)

end Cert.HostRun

end
-- ==== Proof.KernelRun.lean ====
/-
  The kernel's run over the extended reals: it ends with the answer in its result, its inputs unchanged.
-/
module

public import proofs.«01_k».proof.Proof.KernelValue

@[expose] public section

set_option maxRecDepth 16384

noncomputable section

namespace Cert.HostRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Spec Cert.Block

local notation "𝕄" => MT nD τ sig Unit (Elt Ideal) ℕ (UR sig nD τ) ℕ

variable (m : (ℓ : Loc nD τ sig) → Buf (Elt Ideal) ℓ) (ρ : Dev nD → PrngReg)

-- the launch's implicit arguments are found by unifying its conclusion with this one
set_option backward.isDefEq.respectTransparency.types false in
/-- The kernel leaves the answer in its result, and its inputs as they were. -/
theorem kernel_run : θ_run (defs (F := Ideal)) (onTc (τ := τ) (main (F := Ideal))) ⟨m, fun _ => 0, ρ⟩ (fun r => ∀ c : Dev nD,
      r.2.mem ((c.tc : Thread nD τ).loc main_v80) = answer two (img4 m c) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W37 m ρ c b)
    (hfin := fun c s' => by
      iintro ⟨⟨Hh, -⟩, HSI⟩
      unfold StableHlo.held
      imodintro
      iapply (pointsTo_read_all (Pipeline.ucRefs τ sig) (fun b => (((c : Thread nD τ)).1, b)) (W37 m ρ c) s')
      isplitl [Hh] <;> iassumption)
    (hQ := fun s h _ c => ⟨(h c _ (mem_uc main_v80 (by decide))).trans (kernel_value m ρ c),
      (h c _ (mem_uc main_arg0 (by decide))).trans (W37_main_arg0 m ρ c),
      (h c _ (mem_uc main_arg1 (by decide))).trans (W37_main_arg1 m ρ c),
      (h c _ (mem_uc main_arg2 (by decide))).trans (W37_main_arg2 m ρ c),
      (h c _ (mem_uc main_arg3 (by decide))).trans (W37_main_arg3 m ρ c),
      (h c _ (mem_uc main_arg4 (by decide))).trans (W37_main_arg4 m ρ c),
      (h c _ (mem_uc main_arg5 (by decide))).trans (W37_main_arg5 m ρ c),
      (h c _ (mem_uc main_arg6 (by decide))).trans (W37_main_arg6 m ρ c),
      (h c _ (mem_uc main_arg7 (by decide))).trans (W37_main_arg7 m ρ c),
      (h c _ (mem_uc main_arg8 (by decide))).trans (W37_main_arg8 m ρ c),
      (h c _ (mem_uc main_arg9 (by decide))).trans (W37_main_arg9 m ρ c)⟩)

end Cert.HostRun

end
-- ==== Proof.RefOps.lean ====
/-
  The reference program as one straight line of host operations, and its run: the contents it ends with are the line's
  contents. The list of each part is read off the program itself.
-/
module

public import proofs.«01_k».proof.Proof.Gen.ReferenceIdeal
public import Idealize.ShloMosaic.Lib.StableHlo.RunHlo
public import Idealize.ShloMosaic.Lib.StableHlo.RunRead
public import Idealize.ShloMosaic.PureOps.Ideal

@[expose] public section

set_option maxRecDepth 16384

namespace Cert.RefRun

open Idealize.ShloMosaic Idealize.SL.Sem StableHlo
open Cert.ReferenceIdeal Cert.ReferenceIdeal.Gen

noncomputable section

/-- The labels of the reference's programs: it launches no kernel. -/
abbrev Lab : Labels := Pipeline.Sig Λ₀ (Fin 0) fun p => (pcfgs (F := Ideal) p).Adm

/-- The reference's host operations, over the extended reals. -/
abbrev Op : Type := HloOp τ sig (Elt Ideal)

/-- Two lines one after the other are the line of both. -/
theorem isSeq_append {p k : Prog (TpuEff nD τ sig (Elt Ideal) Lab .tc) PUnit} {l₁ l₂ : List Op}
    (h₁ : IsSeq p l₁) (h₂ : IsSeq k l₂) : IsSeq (p >>= fun _ => k) (l₁ ++ l₂) := by
  unfold IsSeq at *
  rw [h₁, h₂, seq_append]

/-- One operation alone is the line of it. -/
theorem isSeq_one {op : Op} : IsSeq (nD := nD) (Λ := Lab) (hlo rfl op fun _ => .ret (⟨⟩ : PUnit)) [op] := rfl

/-- Statements 1 to 60. -/
def part0 : {ops : List Op // IsSeq (main_part0 (F := Ideal) 0) ops} := by
  apply Subtype.mk
  unfold main_part0
  repeat (first | exact IsSeq.nil | exact isSeq_one | apply IsSeq.cons | (apply isSeq_append; unfold fn_pad.body))

/-- Statements 61 to 120. -/
def part1 : {ops : List Op // IsSeq (main_part1 (F := Ideal) 0) ops} := by
  apply Subtype.mk
  unfold main_part1
  repeat first
      | exact IsSeq.nil | exact isSeq_one | apply IsSeq.cons
      | (apply isSeq_append; (first | unfold fn_relu.body | unfold fn_pad_0.body))

/-- Statements 121 to 180. -/
def part2 : {ops : List Op // IsSeq (main_part2 (F := Ideal) 0) ops} := by
  apply Subtype.mk
  unfold main_part2
  repeat first
      | exact IsSeq.nil | exact isSeq_one | apply IsSeq.cons
      | (apply isSeq_append; (first | unfold fn_relu_1.body | unfold fn_pad_2.body))

/-- Statements 181 to 240. -/
def part3 : {ops : List Op // IsSeq (main_part3 (F := Ideal) 0) ops} := by
  apply Subtype.mk
  unfold main_part3
  repeat (first | exact IsSeq.nil | exact isSeq_one | apply IsSeq.cons)

/-- Statements 241 to 300. -/
def part4 : {ops : List Op // IsSeq (main_part4 (F := Ideal) 0) ops} := by
  apply Subtype.mk
  unfold main_part4
  repeat first
      | exact IsSeq.nil | exact isSeq_one | apply IsSeq.cons
      | (apply isSeq_append; (first | unfold fn_relu_3.body | unfold fn_pad_4.body))

/-- Statements 301 to 360. -/
def part5 : {ops : List Op // IsSeq (main_part5 (F := Ideal) 0) ops} := by
  apply Subtype.mk
  unfold main_part5
  repeat (first | exact IsSeq.nil | exact isSeq_one | apply IsSeq.cons)

/-- Statements 361 to 420. -/
def part6 : {ops : List Op // IsSeq (main_part6 (F := Ideal) 0) ops} := by
  apply Subtype.mk
  unfold main_part6
  repeat (first | exact IsSeq.nil | exact isSeq_one | apply IsSeq.cons | (apply isSeq_append; unfold fn_argmin.body))

/-- Statements 421 to 436. -/
def part7 : {ops : List Op // IsSeq (main_part7 (F := Ideal) 0) ops} := by
  apply Subtype.mk
  unfold main_part7
  repeat (first | exact IsSeq.nil | exact isSeq_one | apply IsSeq.cons | (apply isSeq_append; unfold fn_argmin.body))

/-- The whole reference, operation by operation. -/
abbrev ops : List Op :=
  part0.1 ++ (part1.1 ++ (part2.1 ++ (part3.1 ++ (part4.1 ++ (part5.1 ++ (part6.1 ++ part7.1))))))

/-- The program is that line. -/
theorem main_isSeq (d : Dev nD) : IsSeq (main (F := Ideal) d) ops := by
  obtain rfl : d = 0 := Subsingleton.elim d 0
  unfold main
  exact isSeq_append part0.2 (isSeq_append part1.2 (isSeq_append part2.2 (isSeq_append part3.2 (isSeq_append part4.2
    (isSeq_append part5.2 (isSeq_append part6.2 part7.2))))))

/-- Every operation touches TensorCore buffers only. -/
theorem ops_sub : (ops : List Op).Forall fun op => op.bufs ⊆ tcRefs τ sig := by
  unfold ops part0 part1 part2 part3 part4 part5 part6 part7
  simp only [List.cons_append, List.nil_append, List.append_nil]
  repeat (first | exact trivial | refine ⟨?_, ?_⟩ | simp)

/-- No operation allocates. -/
theorem ops_fresh : ∀ op ∈ (ops : List Op), op.fresh = ∅ := by
  have h : (ops : List Op).Forall fun op => op.fresh = ∅ := by
    unfold ops part0 part1 part2 part3 part4 part5 part6 part7
    simp only [List.cons_append, List.nil_append, List.append_nil]
    repeat (first | exact trivial | exact rfl | refine ⟨rfl, ?_⟩)
  exact List.forall_iff_forall_mem.1 h

/-- The reference ends with every buffer at the line's contents. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = after ops (launchContents m d) (Proc.devRef .tc b) :=
  run_hlo (defs (F := Ideal)) (main (F := Ideal)) main_isSeq (by decide) (by decide) ops_sub ops_fresh m ρ

end

end Cert.RefRun
-- ==== Proof.RefArgs.lean ====
/-
  The reference writes none of its ten arguments.
-/
module

public import proofs.«01_k».proof.Proof.RefOps

@[expose] public section

set_option maxRecDepth 16384

noncomputable section

namespace Cert.RefRun

open Idealize.ShloMosaic StableHlo Cert.ReferenceIdeal Cert.ReferenceIdeal.Gen

/-- What every operation writes: one buffer, and it lies after the ten arguments. -/
def WritesPast (op : Op) : Prop := ∃ w : Ref sig .tc, op.writes = {Proc.devRef (τ := τ) .tc w} ∧ 10 ≤ (w.idx : ℕ)

/-- Every operation of the reference writes past the arguments. -/
theorem ops_writes : (ops : List Op).Forall WritesPast := by
  unfold ops part0 part1 part2 part3 part4 part5 part6 part7
  simp only [List.cons_append, List.nil_append, List.append_nil]
  repeat (first | exact ⟨_, rfl, by decide⟩ | refine ⟨⟨_, rfl, by decide⟩, ?_⟩)

/-- An argument keeps its contents through the first operations, however many. -/
theorem args_kept (V : Valuation τ sig (Elt Ideal)) (n : ℕ) (r : Ref sig .tc) (hr : (r.idx : ℕ) < 10) :
    after (ops.take n) V (Proc.devRef .tc r) = V (Proc.devRef .tc r) :=
  after_of_forall_not_mem _ V fun op hop hb => by
    obtain ⟨w, hw, hi⟩ := List.forall_iff_forall_mem.1 ops_writes op (List.mem_of_mem_take hop)
    rw [hw, Finset.mem_singleton] at hb
    obtain rfl := Proc.devRef_injective _ hb
    omega

end Cert.RefRun

end
-- ==== Proof.RefTaps.lean ====
/-
  The reference's line cut at its layers, and what its sixteen products per layer add up to.
-/
module

public import Idealize.ShloMosaic.Lib.StableHlo.ReadAt
public import proofs.«01_k».proof.Proof.Taps
public import proofs.«01_k».proof.Proof.Pads
public import proofs.«01_k».proof.Proof.Model
public import proofs.«01_k».proof.Proof.RefOps

@[expose] public section

noncomputable section

namespace Cert.Spec

open Idealize.ShloMosaic

/-- One product of the reference over the channels, at a pixel, is the tap its row and column name. -/
theorem tap_of {B H W H' W' C O : ℕ} {y : Img B H W C} {xp : Img B H' W' C}
    (hxp : ∀ (b : Fin B) (r : Fin H') (s : Fin W') (c : Fin C), xp (ix4 b r s c) = padRead y b r s c) (w : Img O C 4 4)
    (b : Fin B) (p q : ℕ) (o : Fin O) (kh kw : Fin 4) (r : Fin H') (s : Fin W') (hr : (r : ℕ) = kh + 2 * p) (hs : (s : ℕ) = kw + 2 * q) :
    ∑ c, xp (ix4 b r s c) * w (ix4 o c kh kw) = tap y w b p q o kh kw := by
  refine Finset.sum_congr rfl fun c _ => ?_
  rw [hxp]
  exact congrArg (· * _) (padRead_congr y b (hr.trans (Nat.add_comm _ _)) (hs.trans (Nat.add_comm _ _)) rfl)

end Cert.Spec

namespace Cert.RefRun

open Idealize.ShloMosaic StableHlo

/-- The contents after `a + b` operations are the contents after the next `b` from those after `a`. -/
theorem after_take_add {τ : Topo} {sig : RefSig} {Val : EltTy → Type} (l : List (HloOp τ sig Val)) (V : Valuation τ sig Val) (a b : ℕ) :
    after (l.take (a + b)) V = after ((l.drop a).take b) (after (l.take a) V) := by
  rw [List.take_add]
  induction l.take a generalizing V with
  | nil => rfl
  | cons op k ih => exact ih _

end Cert.RefRun

end
-- ==== Proof.RefConv0.lean ====
/-
  The first convolution of the reference: its padded operand, and its sixteen products added up.
-/
module

public import proofs.«01_k».proof.Proof.RefTaps

@[expose] public section

set_option maxRecDepth 16384

noncomputable section

namespace Cert.RefRun

open Idealize.ShloMosaic StableHlo Cert.ReferenceIdeal Cert.ReferenceIdeal.Gen Cert.Spec

/-- The operations that pad the operand. -/
abbrev padLine0 : List Op := (ops.drop 0).take 4

/-- The operations of the sixteen products, their sum and the bias, rectified. -/
abbrev convLine0 : List Op := (ops.drop 4).take 85

/-- The padded operand at a pixel. -/
theorem ref_pad0 (V : Valuation τ sig (Elt Ideal)) (x : Vec Ideal S16x3x224x224 .f32) (hx : V (Proc.devRef .tc main_arg0) = x)
    (b : Fin 16) (r s : Fin 226) (c : Fin 3) :
    (after padLine0 V (Proc.devRef .tc main_v1) : Vec Ideal S16x226x226x3 .f32) (ix4 b r s c) = padRead (nhwc x) b r s c := by
  have e : (after padLine0 V (Proc.devRef .tc main_v1) : Vec Ideal S16x226x226x3 .f32)
      = pad S16x226x226x3 ![0, 1, 1, 0] ![0, 1, 1, 0] ![0, 0, 0, 0] (transpose S16x224x224x3 [0, 2, 3, 1] x transposes_S16x3x224x224_S16x224x224x3_0_2_3_1)
        (sitofp (F := Ideal) .f32 (constantI S_ 32 0#32)) pads_S16x224x224x3_S16x226x226x3_000_110_110_000 h_S_ := by
    subst hx
    after_reads_simp
    rfl
  rw [e]
  pointwise
  exact dite_pad (nhwc x) b _ _ c (by omega) (fun h => ⟨r - 1, by omega⟩) (fun h => ⟨s - 1, by omega⟩) (fun _ => by simp only []; omega) (fun _ => by simp only []; omega) sitofp_zero

set_option maxHeartbeats 4000000 in
/-- The products' sum is the convolution. -/
theorem ref_conv0 (V : Valuation τ sig (Elt Ideal)) {y : Img 16 224 224 3}
    (hxp : ∀ (b : Fin 16) (r s : Fin 226) (c : Fin 3), (V (Proc.devRef .tc main_v1) : Vec Ideal S16x226x226x3 .f32) (ix4 b r s c) = padRead y b r s c)
    (w : Vec Ideal S64x3x4x4 .f32) (hw : V (Proc.devRef .tc main_arg1) = w) (bias : Vec Ideal S64 .f32) (hb : V (Proc.devRef .tc main_arg2) = bias) :
    (after convLine0 V (Proc.devRef .tc main_v84) : Vec Ideal S16x112x112x64 .f32) = relu (conv 112 112 y w bias) := by
  subst hw hb
  funext j
  obtain ⟨b, p, q, o, rfl⟩ : ∃ (b : Fin 16) (p q : Fin 112) (o : Fin 64), j = ix4 b p q o :=
    ⟨j 0, j 1, j 2, j 3, by funext a; fin_cases a <;> rfl⟩
  after_reads_simp
  generalize V (Proc.devRef .tc main_v1) = xp at hxp ⊢
  generalize V (Proc.devRef .tc main_arg1) = w
  generalize V (Proc.devRef .tc main_arg2) = bias
  simp -implicitDefEqProofs only [TRef.toBuf, TRef.ofBuf, cast_cast, cast_eq]
  clean_types
  pointwise
  refine congrArg₂ max (congrArg₂ (· + ·) (sum_sixteen (fun kh kw => tap y w b p q o kh kw) ?_ ?_ ?_ ?_ ?_ ?_ ?_ ?_ ?_ ?_ ?_ ?_ ?_ ?_ ?_ ?_) rfl) rfl
  all_goals
    refine tap_of hxp w b p q o _ _ _ _ ?_ ?_
    all_goals first | rfl | exact (Nat.zero_add _).symm

end Cert.RefRun

end
-- ==== Proof.RefConv1.lean ====
/-
  The second convolution of the reference: its padded operand, and its sixteen products added up.
-/
module

public import proofs.«01_k».proof.Proof.RefTaps

@[expose] public section

set_option maxRecDepth 16384

noncomputable section

namespace Cert.RefRun

open Idealize.ShloMosaic StableHlo Cert.ReferenceIdeal Cert.ReferenceIdeal.Gen Cert.Spec

/-- The operations that pad the operand. -/
abbrev padLine1 : List Op := (ops.drop 89).take 3

/-- The operations of the sixteen products, their sum and the bias, rectified. -/
abbrev convLine1 : List Op := (ops.drop 92).take 85

/-- The padded operand at a pixel. -/
theorem ref_pad1 (V : Valuation τ sig (Elt Ideal)) (y : Vec Ideal S16x112x112x64 .f32) (hx : V (Proc.devRef .tc main_v84) = y)
    (b : Fin 16) (r s : Fin 114) (c : Fin 64) :
    (after padLine1 V (Proc.devRef .tc main_v85) : Vec Ideal S16x114x114x64 .f32) (ix4 b r s c) = padRead y b r s c := by
  have e : (after padLine1 V (Proc.devRef .tc main_v85) : Vec Ideal S16x114x114x64 .f32)
      = pad S16x114x114x64 ![0, 1, 1, 0] ![0, 1, 1, 0] ![0, 0, 0, 0] y
        (sitofp (F := Ideal) .f32 (constantI S_ 32 0#32)) pads_S16x112x112x64_S16x114x114x64_000_110_110_000 h_S_ := by
    subst hx
    after_reads_simp
    rfl
  rw [e]
  pointwise
  exact dite_pad y b _ _ c (by omega) _ _ (fun _ => by simp only []; omega) (fun _ => by simp only []; omega) sitofp_zero

set_option maxHeartbeats 4000000 in
/-- The products' sum is the convolution. -/
theorem ref_conv1 (V : Valuation τ sig (Elt Ideal)) {y : Img 16 112 112 64}
    (hxp : ∀ (b : Fin 16) (r s : Fin 114) (c : Fin 64), (V (Proc.devRef .tc main_v85) : Vec Ideal S16x114x114x64 .f32) (ix4 b r s c) = padRead y b r s c)
    (w : Vec Ideal S128x64x4x4 .f32) (hw : V (Proc.devRef .tc main_arg3) = w) (bias : Vec Ideal S128 .f32) (hb : V (Proc.devRef .tc main_arg4) = bias) :
    (after convLine1 V (Proc.devRef .tc main_v168) : Vec Ideal S16x56x56x128 .f32) = relu (conv 56 56 y w bias) := by
  subst hw hb
  funext j
  obtain ⟨b, p, q, o, rfl⟩ : ∃ (b : Fin 16) (p q : Fin 56) (o : Fin 128), j = ix4 b p q o :=
    ⟨j 0, j 1, j 2, j 3, by funext a; fin_cases a <;> rfl⟩
  after_reads_simp
  generalize V (Proc.devRef .tc main_v85) = xp at hxp ⊢
  generalize V (Proc.devRef .tc main_arg3) = w
  generalize V (Proc.devRef .tc main_arg4) = bias
  simp -implicitDefEqProofs only [TRef.toBuf, TRef.ofBuf, cast_cast, cast_eq]
  clean_types
  pointwise
  refine congrArg₂ max (congrArg₂ (· + ·) (sum_sixteen (fun kh kw => tap y w b p q o kh kw) ?_ ?_ ?_ ?_ ?_ ?_ ?_ ?_ ?_ ?_ ?_ ?_ ?_ ?_ ?_ ?_) rfl) rfl
  all_goals
    refine tap_of hxp w b p q o _ _ _ _ ?_ ?_
    all_goals first | rfl | exact (Nat.zero_add _).symm

end Cert.RefRun

end
-- ==== Proof.RefConv2.lean ====
/-
  The third convolution of the reference: its padded operand, and its sixteen products added up.
-/
module

public import proofs.«01_k».proof.Proof.RefTaps

@[expose] public section

set_option maxRecDepth 16384

noncomputable section

namespace Cert.RefRun

open Idealize.ShloMosaic StableHlo Cert.ReferenceIdeal Cert.ReferenceIdeal.Gen Cert.Spec

/-- The operations that pad the operand. -/
abbrev padLine2 : List Op := (ops.drop 177).take 3

/-- The operations of the sixteen products, their sum and the bias, rectified. -/
abbrev convLine2 : List Op := (ops.drop 180).take 85

/-- The padded operand at a pixel. -/
theorem ref_pad2 (V : Valuation τ sig (Elt Ideal)) (y : Vec Ideal S16x56x56x128 .f32) (hx : V (Proc.devRef .tc main_v168) = y)
    (b : Fin 16) (r s : Fin 58) (c : Fin 128) :
    (after padLine2 V (Proc.devRef .tc main_v169) : Vec Ideal S16x58x58x128 .f32) (ix4 b r s c) = padRead y b r s c := by
  have e : (after padLine2 V (Proc.devRef .tc main_v169) : Vec Ideal S16x58x58x128 .f32)
      = pad S16x58x58x128 ![0, 1, 1, 0] ![0, 1, 1, 0] ![0, 0, 0, 0] y
        (sitofp (F := Ideal) .f32 (constantI S_ 32 0#32)) pads_S16x56x56x128_S16x58x58x128_000_110_110_000 h_S_ := by
    subst hx
    after_reads_simp
    rfl
  rw [e]
  pointwise
  exact dite_pad y b _ _ c (by omega) _ _ (fun _ => by simp only []; omega) (fun _ => by simp only []; omega) sitofp_zero

set_option maxHeartbeats 4000000 in
/-- The products' sum is the convolution. -/
theorem ref_conv2 (V : Valuation τ sig (Elt Ideal)) {y : Img 16 56 56 128}
    (hxp : ∀ (b : Fin 16) (r s : Fin 58) (c : Fin 128), (V (Proc.devRef .tc main_v169) : Vec Ideal S16x58x58x128 .f32) (ix4 b r s c) = padRead y b r s c)
    (w : Vec Ideal S256x128x4x4 .f32) (hw : V (Proc.devRef .tc main_arg5) = w) (bias : Vec Ideal S256 .f32) (hb : V (Proc.devRef .tc main_arg6) = bias) :
    (after convLine2 V (Proc.devRef .tc main_v252) : Vec Ideal S16x28x28x256 .f32) = relu (conv 28 28 y w bias) := by
  subst hw hb
  funext j
  obtain ⟨b, p, q, o, rfl⟩ : ∃ (b : Fin 16) (p q : Fin 28) (o : Fin 256), j = ix4 b p q o :=
    ⟨j 0, j 1, j 2, j 3, by funext a; fin_cases a <;> rfl⟩
  after_reads_simp
  generalize V (Proc.devRef .tc main_v169) = xp at hxp ⊢
  generalize V (Proc.devRef .tc main_arg5) = w
  generalize V (Proc.devRef .tc main_arg6) = bias
  simp -implicitDefEqProofs only [TRef.toBuf, TRef.ofBuf, cast_cast, cast_eq]
  clean_types
  pointwise
  refine congrArg₂ max (congrArg₂ (· + ·) (sum_sixteen (fun kh kw => tap y w b p q o kh kw) ?_ ?_ ?_ ?_ ?_ ?_ ?_ ?_ ?_ ?_ ?_ ?_ ?_ ?_ ?_ ?_) rfl) rfl
  all_goals
    refine tap_of hxp w b p q o _ _ _ _ ?_ ?_
    all_goals first | rfl | exact (Nat.zero_add _).symm

end Cert.RefRun

end
-- ==== Proof.RefConv3.lean ====
/-
  The fourth convolution of the reference: its padded operand, and its sixteen products added up.
-/
module

public import proofs.«01_k».proof.Proof.RefTaps

@[expose] public section

set_option maxRecDepth 16384

noncomputable section

namespace Cert.RefRun

open Idealize.ShloMosaic StableHlo Cert.ReferenceIdeal Cert.ReferenceIdeal.Gen Cert.Spec

/-- The operations that pad the operand. -/
abbrev padLine3 : List Op := (ops.drop 265).take 3

/-- The operations of the sixteen products, their sum and the bias. -/
abbrev convLine3 : List Op := (ops.drop 268).take 82

/-- The padded operand at a pixel. -/
theorem ref_pad3 (V : Valuation τ sig (Elt Ideal)) (y : Vec Ideal S16x28x28x256 .f32) (hx : V (Proc.devRef .tc main_v252) = y)
    (b : Fin 16) (r s : Fin 30) (c : Fin 256) :
    (after padLine3 V (Proc.devRef .tc main_v253) : Vec Ideal S16x30x30x256 .f32) (ix4 b r s c) = padRead y b r s c := by
  have e : (after padLine3 V (Proc.devRef .tc main_v253) : Vec Ideal S16x30x30x256 .f32)
      = pad S16x30x30x256 ![0, 1, 1, 0] ![0, 1, 1, 0] ![0, 0, 0, 0] y
        (sitofp (F := Ideal) .f32 (constantI S_ 32 0#32)) pads_S16x28x28x256_S16x30x30x256_000_110_110_000 h_S_ := by
    subst hx
    after_reads_simp
    rfl
  rw [e]
  pointwise
  exact dite_pad y b _ _ c (by omega) _ _ (fun _ => by simp only []; omega) (fun _ => by simp only []; omega) sitofp_zero

set_option maxHeartbeats 4000000 in
/-- The products' sum is the convolution. -/
theorem ref_conv3 (V : Valuation τ sig (Elt Ideal)) {y : Img 16 28 28 256}
    (hxp : ∀ (b : Fin 16) (r s : Fin 30) (c : Fin 256), (V (Proc.devRef .tc main_v253) : Vec Ideal S16x30x30x256 .f32) (ix4 b r s c) = padRead y b r s c)
    (w : Vec Ideal S256x256x4x4 .f32) (hw : V (Proc.devRef .tc main_arg7) = w) (bias : Vec Ideal S256 .f32) (hb : V (Proc.devRef .tc main_arg8) = bias) :
    (after convLine3 V (Proc.devRef .tc main_v335) : Vec Ideal S16x14x14x256 .f32) = conv 14 14 y w bias := by
  subst hw hb
  funext j
  obtain ⟨b, p, q, o, rfl⟩ : ∃ (b : Fin 16) (p q : Fin 14) (o : Fin 256), j = ix4 b p q o :=
    ⟨j 0, j 1, j 2, j 3, by funext a; fin_cases a <;> rfl⟩
  after_reads_simp
  generalize V (Proc.devRef .tc main_v253) = xp at hxp ⊢
  generalize V (Proc.devRef .tc main_arg7) = w
  generalize V (Proc.devRef .tc main_arg8) = bias
  clean_types
  pointwise
  refine congrArg₂ (· + ·) (sum_sixteen (fun kh kw => tap y w b p q o kh kw) ?_ ?_ ?_ ?_ ?_ ?_ ?_ ?_ ?_ ?_ ?_ ?_ ?_ ?_ ?_ ?_) rfl
  all_goals
    refine tap_of hxp w b p q o _ _ _ _ ?_ ?_
    all_goals first | rfl | exact (Nat.zero_add _).symm

end Cert.RefRun

end
-- ==== Proof.RefPick.lean ====
/-
  The reference's two ways with a code: the index of the least distance found by a fold over (value, index) pairs, and the
  code's row gathered from the codebook.
-/
module

public import proofs.«01_k».proof.Proof.Argmin
public import proofs.«01_k».proof.Proof.Gen.ReferenceIdeal
public import Idealize.ShloMosaic.PureOps

@[expose] public section

noncomputable section

namespace Cert.RefRun

open Idealize.ShloMosaic Cert.ReferenceIdeal Cert.ReferenceIdeal.Gen Cert.Spec

/-- One pair comes no later than another: a smaller value, or the same value and no larger index. -/
def NoLater (a b : EReal × BitVec 32) : Prop := a.1 < b.1 ∨ (a.1 = b.1 ∧ a.2.toInt ≤ b.2.toInt)

/-- A pair comes no later than itself. -/
theorem NoLater.refl (a : EReal × BitVec 32) : NoLater a a := .inr ⟨rfl, le_rfl⟩

/-- Two comparisons in a row. -/
theorem NoLater.trans {a b c : EReal × BitVec 32} (h : NoLater a b) (h' : NoLater b c) : NoLater a c := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- A one-bit word or-ed to a set bit is set. -/
theorem one_or (x : BitVec 1) : 1#1 ||| x = 1#1 := by revert x; decide

/-- The reference's choice between two pairs: the earlier one. -/
theorem reducer_eq (a b : EReal × BitVec 32) :
    (reducer_argmin_f32_i32 (F := Ideal) a b = a ∧ NoLater a b) ∨ (reducer_argmin_f32_i32 (F := Ideal) a b = b ∧ NoLater b a) := by
  obtain ⟨x, i⟩ := a
  obtain ⟨y, j⟩ := b
  rcases lt_trichotomy x y with h | h | h
  · refine .inl ⟨?_, .inl h⟩
    simp [reducer_argmin_f32_i32, Ideal.cmpf_def, Ideal.cmp, h, IntOp.ori, IntOp.andi, Scalar.select, one_or]
  · subst h
    by_cases hi : i.toInt < j.toInt
    · refine .inl ⟨?_, .inr ⟨rfl, hi.le⟩⟩
      simp [reducer_argmin_f32_i32, Ideal.cmpf_def, Ideal.cmp, IntOp.ori, IntOp.andi, Scalar.select, IntOp.cmpi, BitVec.slt, hi]
    · refine .inr ⟨?_, .inr ⟨rfl, not_lt.1 hi⟩⟩
      simp [reducer_argmin_f32_i32, Ideal.cmpf_def, Ideal.cmp, IntOp.ori, IntOp.andi, Scalar.select, IntOp.cmpi, BitVec.slt, hi]
  · refine .inr ⟨?_, .inl h⟩
    simp [reducer_argmin_f32_i32, Ideal.cmpf_def, Ideal.cmp, not_lt.2 h.le, h.ne', IntOp.ori, IntOp.andi, Scalar.select]

/-- The fold ends at one of its pairs, and that pair comes no later than any of them. -/
theorem foldl_reducer (L : List (EReal × BitVec 32)) (p : EReal × BitVec 32) :
    L.foldl (reducer_argmin_f32_i32 (F := Ideal)) p ∈ p :: L ∧ ∀ q ∈ p :: L, NoLater (L.foldl (reducer_argmin_f32_i32 (F := Ideal)) p) q := by
  induction L generalizing p with
  | nil => exact ⟨List.mem_singleton.2 rfl, fun q hq => by rw [List.mem_singleton.1 hq]; exact .refl p⟩
  | cons b L ih =>
    obtain ⟨hm, hle⟩ := ih (reducer_argmin_f32_i32 (F := Ideal) p b)
    rw [List.foldl_cons]
    generalize L.foldl (reducer_argmin_f32_i32 (F := Ideal)) (reducer_argmin_f32_i32 (F := Ideal) p b) = r at hm hle
    rcases reducer_eq p b with ⟨e, h⟩ | ⟨e, h⟩ <;> rw [e] at hm hle
    · refine ⟨?_, fun q hq => ?_⟩
      · rcases List.mem_cons.1 hm with h1 | h1
        · exact List.mem_cons.2 (.inl h1)
        · exact List.mem_cons.2 (.inr (List.mem_cons_of_mem _ h1))
      · rcases List.mem_cons.1 hq with h1 | h1
        · exact hle q (List.mem_cons.2 (.inl h1))
        · rcases List.mem_cons.1 h1 with h2 | h2
          · exact (hle p List.mem_cons_self).trans (h2 ▸ h)
          · exact hle q (List.mem_cons_of_mem _ h2)
    · refine ⟨List.mem_cons_of_mem _ hm, fun q hq => ?_⟩
      rcases List.mem_cons.1 hq with h1 | h1
      · exact (hle b List.mem_cons_self).trans (h1 ▸ h)
      · exact hle q h1

/-- A fold from positive infinity over the pairs (value, index) of 256 values ends at the index of the least. -/
theorem foldl_argmin (f : Fin 256 → EReal) (L : List (EReal × BitVec 32))
    (h : ∀ p, p ∈ L ↔ ∃ k : Fin 256, p = (f k, BitVec.ofNat 32 (k : ℕ))) :
    (L.foldl (reducer_argmin_f32_i32 (F := Ideal)) ((⊤ : EReal), 0#32)).2 = BitVec.ofNat 32 (argmin f : ℕ) := by
  obtain ⟨hm, hle⟩ := foldl_reducer L ((⊤ : EReal), 0#32)
  generalize L.foldl (reducer_argmin_f32_i32 (F := Ideal)) ((⊤ : EReal), 0#32) = r at hm hle
  have hk : ∀ k : Fin 256, NoLater r (f k, BitVec.ofNat 32 (k : ℕ)) := fun k => hle _ (List.mem_cons_of_mem _ ((h _).2 ⟨k, rfl⟩))
  obtain ⟨k, hv, hi⟩ : ∃ k : Fin 256, f k = r.1 ∧ r.2 = BitVec.ofNat 32 (k : ℕ) := by
    rcases List.mem_cons.1 hm with e | e
    · subst e
      refine ⟨0, ?_, rfl⟩
      rcases hk 0 with h0 | ⟨h0, -⟩
      · exact absurd h0 not_top_lt
      · exact h0.symm
    · obtain ⟨k, rfl⟩ := (h _).1 e
      exact ⟨k, rfl, rfl⟩
  rw [hi, ← eq_argmin f k]
  · intro l
    rw [hv]
    rcases hk l with h1 | ⟨h1, -⟩
    · exact h1.le
    · exact h1.le
  · intro l hl
    rw [hv]
    rcases hk l with h1 | ⟨-, h1⟩
    · exact h1
    · rw [hi, toInt_ofNat _ (by omega), toInt_ofNat _ (by omega)] at h1
      exact absurd hl (not_lt.2 (by exact_mod_cast h1))

/-- The printed arg-min of an array of distances is, row by row, the index of the least. -/
theorem pick_at (d : FVec Ideal S16x196x256 .f32) (b : Fin 16) (n : Fin 196) :
    (Host.argReduce (reducer_argmin_f32_i32 (F := Ideal)) d (iotaInDim S16x196x256 32 2) (constant S_ .f32 0x7F800000#32)
      (constantI S_ 32 0#32) reducesTo_S16x196x256_S16x196_d2 h_S_ (ix2 b n)).2
      = BitVec.ofNat 32 (argmin fun k => d (ix3 b n k) : ℕ) := by
  rw [Ideal.argReduce_eq_reduce2, Host.reduce2_eq_foldl_fiber]
  rw [show ((constant (F := Ideal) S_ .f32 0x7F800000#32 (Shape.Idx.first h_S_) : EReal), constantI S_ 32 0#32 (Shape.Idx.first h_S_))
    = ((⊤ : EReal), 0#32) from Prod.ext ofBits_top rfl]
  refine foldl_argmin _ _ fun p => ?_
  unfold Host.argReduceFiber
  simp only [List.mem_map, List.mem_filter, List.mem_finRange, true_and, decide_eq_true_eq]
  constructor
  · rintro ⟨i, hi, rfl⟩
    generalize S16x196x256.rowMajor.symm i = j at hi ⊢
    have h0 : (j 0 : Fin 16) = b := congrFun hi 0
    have h1 : (j 1 : Fin 196) = n := congrFun hi 1
    refine ⟨j 2, ?_⟩
    subst h0 h1
    refine Prod.ext ?_ rfl
    exact congrArg d (by funext a; fin_cases a <;> rfl)
  · rintro ⟨k, rfl⟩
    refine ⟨S16x196x256.rowMajor (ix3 b n k), ?_, ?_⟩
    · rw [Equiv.symm_apply_apply]
      funext a
      fin_cases a <;> rfl
    · rw [Equiv.symm_apply_apply]
      rfl

/-- The gathered array holds, at each pixel, the row of the codebook its code names. -/
theorem gather_at (cb : FVec Ideal S256x256 .f32) (idx : IVec S16x196x1 32) (b : Fin 16) (n : Fin 196) (d : Fin 256) (k : Fin 256)
    (hk : idx (ix3 b n (0 : Fin 1)) = BitVec.ofNat 32 (k : ℕ)) :
    Host.gather gather_S256x256_S16x196x1_S16x196x256_2_0_n_n_0_2_1256 cb idx (ix3 b n d) = cb (ix2 k d) := by
  unfold Host.gather
  refine congrArg cb (funext fun a => Fin.ext ?_)
  let D := gather_S256x256_S16x196x1_S16x196x256_2_0_n_n_0_2_1256
  show D.start (ix3 b n d) idx a + D.batchCoord (ix3 b n d) a + D.offCoord (ix3 b n d) a = _
  rw [D.batchCoord_eq_zero _ _ List.not_mem_nil, Nat.add_zero]
  have ha : a = (0 : Fin 2) ∨ a = (1 : Fin 2) := by fin_cases a <;> simp
  rcases ha with rfl | rfl
  · rw [D.offCoord_eq_zero _ _ (fun h => ((D.mem_sKept _).mp h).1 (List.mem_singleton.mpr rfl)), Nat.add_zero]
    unfold GatherDims.start
    rw [dif_pos (show (0 : Fin 2) ∈ D.startIndexMap from List.mem_singleton.mpr rfl)]
    have hsi : D.siIdx (ix3 b n d) ⟨List.idxOf (0 : Fin 2) D.startIndexMap,
        List.idxOf_lt_length_iff.2 (List.mem_singleton.mpr rfl)⟩ = ix3 b n (0 : Fin 1) := by
      funext c
      fin_cases c <;> rfl
    rw [hsi, hk, toInt_ofNat _ (by omega)]
    show min ((k : ℕ) : ℤ).toNat (256 - 1) = (k : ℕ)
    omega
  · unfold GatherDims.start
    rw [dif_neg (show (1 : Fin 2) ∉ D.startIndexMap from by decide), Nat.zero_add]
    rfl

end Cert.RefRun

end
-- ==== Proof.RefStep.lean ====
/-
  One step of residual quantization as the reference computes it on whole arrays: the codebook cut out, the distances, the
  codes, and what the chosen rows leave.
-/
module

public import proofs.«01_k».proof.Proof.RefPick
public import proofs.«01_k».proof.Proof.Block4
public import Idealize.ShloMosaic.Lib.Pointwise
public import Idealize.ShloMosaic.Lib.Routing.OpsPair

@[expose] public section

set_option maxRecDepth 16384

noncomputable section

namespace Cert.RefRun

open Idealize.ShloMosaic Cert.ReferenceIdeal Cert.ReferenceIdeal.Gen Cert.Spec Cert.Block

/-- The squared distances of the residual rows `R` to the codes of `cb`, as the reference writes them. -/
def distOf (R : FVec Ideal S16x196x256 .f32) (cb : FVec Ideal S256x256 .f32) : FVec Ideal S16x196x256 .f32 :=
  addf
    (subf
      (broadcastInDim S16x196x256 ![0, 1, 2] bcast_S16x196x1_S16x196x256_0_1_2
        (broadcastInDim S16x196x1 ![0, 1] bcast_S16x196_S16x196x1_0_1
          (Host.reduceAdd (mulf R R) (constant S_ .f32 0x00000000#32) reducesTo_S16x196x256_S16x196_d2 h_S_)))
      (mulf (broadcastInDim S16x196x256 ![] bcast_S_S16x196x256 (constant S_ .f32 0x40000000#32))
        (Host.dotGeneral dot_S16x196x256_S256x256_S16x196x256_2_0_01_1_n_n none R
          (transpose S256x256 [1, 0] cb transposes_S256x256_S256x256_1_0))))
    (broadcastInDim S16x196x256 ![0, 1, 2] bcast_S1x1x256_S16x196x256_0_1_2
      (broadcastInDim S1x1x256 ![2] bcast_S256_S1x1x256_2
        (Host.reduceAdd (mulf cb cb) (constant S_ .f32 0x00000000#32) reducesTo_S256x256_S256_d1 h_S_)))

/-- The distances are the problem's. -/
theorem dist_at (R : FVec Ideal S16x196x256 .f32) (cb : FVec Ideal S256x256 .f32) (b : Fin 16) (n : Fin 196) (k : Fin 256) :
    distOf R cb (ix3 b n k) = dist two (fun d => R (ix3 b n d)) (fun k d => cb (ix2 k d)) k := by
  unfold distOf
  pointwise
  rfl

/-- The index of the least distance of each row. -/
def pickOf (d : FVec Ideal S16x196x256 .f32) : IVec S16x196 32 := fun j =>
  (Host.argReduce (reducer_argmin_f32_i32 (F := Ideal)) d (iotaInDim S16x196x256 32 2) (constant S_ .f32 0x7F800000#32)
    (constantI S_ 32 0#32) reducesTo_S16x196x256_S16x196_d2 h_S_ j).2

/-- The codes are the problem's. -/
theorem code_at (R : FVec Ideal S16x196x256 .f32) (cb : FVec Ideal S256x256 .f32) (b : Fin 16) (n : Fin 196) :
    pickOf (distOf R cb) (ix2 b n) = BitVec.ofNat 32 (code two (fun d => R (ix3 b n d)) (fun k d => cb (ix2 k d)) : ℕ) := by
  refine (pick_at _ b n).trans ?_
  exact congrArg (fun f => BitVec.ofNat 32 (argmin f : ℕ)) (funext fun k => dist_at R cb b n k)

/-- What is left of the rows after the rows the codes `K` name are taken off. -/
def leftOf (R : FVec Ideal S16x196x256 .f32) (cb : FVec Ideal S256x256 .f32) (K : IVec S16x196 32) : FVec Ideal S16x196x256 .f32 :=
  subf R (Host.gather gather_S256x256_S16x196x1_S16x196x256_2_0_n_n_0_2_1256 cb
    (broadcastInDim S16x196x1 ![0, 1] bcast_S16x196_S16x196x1_0_1
      (select (cmpi .slt K (broadcastInDim S16x196 ![] bcast_S_S16x196 (constantI S_ 32 0#32)))
        (addi K (broadcastInDim S16x196 ![] bcast_S_S16x196 (constantI S_ 32 256#32))) K)))

/-- What is left is the problem's. -/
theorem left_at (R : FVec Ideal S16x196x256 .f32) (cb : FVec Ideal S256x256 .f32) (b : Fin 16) (n : Fin 196) (d : Fin 256) :
    leftOf R cb (pickOf (distOf R cb)) (ix3 b n d) = rest two (fun d => R (ix3 b n d)) (fun k d => cb (ix2 k d)) d := by
  unfold leftOf rest
  refine congrArg (R (ix3 b n d) - ·) (gather_at cb _ b n d _ ?_)
  pointwise
  rw [code_at]
  refine Routing.wrap_of_lt _ _ ?_
  rw [BitVec.toNat_ofNat]
  omega

end Cert.RefRun

end
-- ==== Proof.RefRvq.lean ====
/-
  The reference's quantizer, step by step: what its operations leave in the codes' and the residual's buffers.
-/
module

public import proofs.«01_k».proof.Proof.RefStep
public import proofs.«01_k».proof.Proof.RefTaps

@[expose] public section

set_option maxRecDepth 16384

noncomputable section

namespace Cert.RefRun

open Idealize.ShloMosaic StableHlo Cert.ReferenceIdeal Cert.ReferenceIdeal.Gen Cert.Spec Cert.Block

/-- The operations of the first step: the latent image as rows, and the step on them. -/
abbrev stepLine0 : List Op := (ops.drop 350).take 35

/-- The operations of the second step. -/
abbrev stepLine1 : List Op := (ops.drop 385).take 34

/-- The operations of the third step up to its codes. -/
abbrev stepLine2 : List Op := (ops.drop 419).take 24

/-- The operations that put the codes side by side, all but the last. -/
abbrev lastLine : List Op := (ops.drop 443).take 13

/-- The latent image as rows. -/
def rowsOf (h : FVec Ideal S16x14x14x256 .f32) : FVec Ideal S16x196x256 .f32 :=
  shapeCast S16x196x256 h shapeCasts_S16x14x14x256_S16x196x256

/-- The first codebook. -/
def book0 (C : FVec Ideal S3x256x256 .f32) : FVec Ideal S256x256 .f32 :=
  shapeCast S256x256 (extractStridedSlice S1x256x256 ![0, 0, 0] C slices_S3x256x256_S1x256x256_0_0_0) shapeCasts_S1x256x256_S256x256

/-- The second codebook. -/
def book1 (C : FVec Ideal S3x256x256 .f32) : FVec Ideal S256x256 .f32 :=
  shapeCast S256x256 (extractStridedSlice S1x256x256 ![1, 0, 0] C slices_S3x256x256_S1x256x256_1_0_0) shapeCasts_S1x256x256_S256x256

/-- The third codebook. -/
def book2 (C : FVec Ideal S3x256x256 .f32) : FVec Ideal S256x256 .f32 :=
  shapeCast S256x256 (extractStridedSlice S1x256x256 ![2, 0, 0] C slices_S3x256x256_S1x256x256_2_0_0) shapeCasts_S1x256x256_S256x256

/-- The first codebook's entries. -/
theorem book0_at (C : FVec Ideal S3x256x256 .f32) (k d : Fin 256) : book0 C (ix2 k d) = book C 0 k d := by
  unfold book0
  pointwise
  rfl

/-- The second codebook's entries. -/
theorem book1_at (C : FVec Ideal S3x256x256 .f32) (k d : Fin 256) : book1 C (ix2 k d) = book C 1 k d := by
  unfold book1
  pointwise
  rfl

/-- The third codebook's entries. -/
theorem book2_at (C : FVec Ideal S3x256x256 .f32) (k d : Fin 256) : book2 C (ix2 k d) = book C 2 k d := by
  unfold book2
  pointwise
  rfl

/-- The rows are the latent image's pixels in row-major order. -/
theorem rows_at (h : FVec Ideal S16x14x14x256 .f32) (b : Fin 16) (n : Fin 196) (d : Fin 256) :
    rowsOf h (ix3 b n d) = latentRow h b n d := by
  unfold rowsOf latentRow
  pointwise

/-- The first step's codes. -/
theorem ref_code0 (V : Valuation τ sig (Elt Ideal)) (h : FVec Ideal S16x14x14x256 .f32) (C : FVec Ideal S3x256x256 .f32)
    (hh : V (Proc.devRef .tc main_v335) = h) (hC : V (Proc.devRef .tc main_arg9) = C) :
    (after stepLine0 V (Proc.devRef .tc main_v353) : IVec S16x196 32) = pickOf (distOf (rowsOf h) (book0 C)) := by
  subst hh hC
  after_reads_simp
  rfl

/-- What the first step leaves. -/
theorem ref_left0 (V : Valuation τ sig (Elt Ideal)) (h : FVec Ideal S16x14x14x256 .f32) (C : FVec Ideal S3x256x256 .f32)
    (hh : V (Proc.devRef .tc main_v335) = h) (hC : V (Proc.devRef .tc main_arg9) = C) :
    (after stepLine0 V (Proc.devRef .tc main_v361) : FVec Ideal S16x196x256 .f32)
      = leftOf (rowsOf h) (book0 C) (pickOf (distOf (rowsOf h) (book0 C))) := by
  subst hh hC
  after_reads_simp
  rfl

/-- The second step's codes. -/
theorem ref_code1 (V : Valuation τ sig (Elt Ideal)) (R : FVec Ideal S16x196x256 .f32) (C : FVec Ideal S3x256x256 .f32)
    (hR : V (Proc.devRef .tc main_v361) = R) (hC : V (Proc.devRef .tc main_arg9) = C) :
    (after stepLine1 V (Proc.devRef .tc main_v378) : IVec S16x196 32) = pickOf (distOf R (book1 C)) := by
  subst hR hC
  after_reads_simp
  rfl

/-- What the second step leaves. -/
theorem ref_left1 (V : Valuation τ sig (Elt Ideal)) (R : FVec Ideal S16x196x256 .f32) (C : FVec Ideal S3x256x256 .f32)
    (hR : V (Proc.devRef .tc main_v361) = R) (hC : V (Proc.devRef .tc main_arg9) = C) :
    (after stepLine1 V (Proc.devRef .tc main_v386) : FVec Ideal S16x196x256 .f32)
      = leftOf R (book1 C) (pickOf (distOf R (book1 C))) := by
  subst hR hC
  after_reads_simp
  rfl

/-- The third step's codes. -/
theorem ref_code2 (V : Valuation τ sig (Elt Ideal)) (R : FVec Ideal S16x196x256 .f32) (C : FVec Ideal S3x256x256 .f32)
    (hR : V (Proc.devRef .tc main_v386) = R) (hC : V (Proc.devRef .tc main_arg9) = C) :
    (after stepLine2 V (Proc.devRef .tc main_v403) : IVec S16x196 32) = pickOf (distOf R (book2 C)) := by
  subst hR hC
  after_reads_simp
  rfl

end Cert.RefRun

end
-- ==== Proof.RefEnd.lean ====
/-
  The end of the reference: the three steps' codes laid side by side.
-/
module

public import proofs.«01_k».proof.Proof.RefRvq

@[expose] public section

set_option maxRecDepth 16384

noncomputable section

namespace Cert.RefRun

open Idealize.ShloMosaic StableHlo Cert.ReferenceIdeal Cert.ReferenceIdeal.Gen Cert.Spec Cert.Block

/-- The operation that joins the codes. -/
abbrev joinLine : List Op := (ops.drop 456).take 1

/-- The second step keeps the first step's codes. -/
theorem step1_keeps (V : Valuation τ sig (Elt Ideal)) :
    after stepLine1 V (Proc.devRef .tc main_v353) = V (Proc.devRef .tc main_v353) := by
  after_reads_simp

/-- The third step keeps the first step's codes. -/
theorem step2_keeps0 (V : Valuation τ sig (Elt Ideal)) :
    after stepLine2 V (Proc.devRef .tc main_v353) = V (Proc.devRef .tc main_v353) := by
  after_reads_simp

/-- The third step keeps the second step's codes. -/
theorem step2_keeps1 (V : Valuation τ sig (Elt Ideal)) :
    after stepLine2 V (Proc.devRef .tc main_v378) = V (Proc.devRef .tc main_v378) := by
  after_reads_simp

/-- One step's codes as a column. -/
def column (K : IVec S16x196 32) : IVec S16x196x1 32 := broadcastInDim S16x196x1 ![0, 1] bcast_S16x196_S16x196x1_0_1 K

/-- The first column. -/
theorem last0 (V : Valuation τ sig (Elt Ideal)) (K : IVec S16x196 32) (hK : V (Proc.devRef .tc main_v353) = K) :
    (after lastLine V (Proc.devRef .tc main_v412) : IVec S16x196x1 32) = column K := by
  subst hK
  after_reads_simp
  rfl

/-- The second column. -/
theorem last1 (V : Valuation τ sig (Elt Ideal)) (K : IVec S16x196 32) (hK : V (Proc.devRef .tc main_v378) = K) :
    (after lastLine V (Proc.devRef .tc main_v413) : IVec S16x196x1 32) = column K := by
  subst hK
  after_reads_simp
  rfl

/-- The third column. -/
theorem last2 (V : Valuation τ sig (Elt Ideal)) (K : IVec S16x196 32) (hK : V (Proc.devRef .tc main_v403) = K) :
    (after lastLine V (Proc.devRef .tc main_v414) : IVec S16x196x1 32) = column K := by
  subst hK
  after_reads_simp
  rfl

/-- The columns side by side. -/
theorem join_eq (V : Valuation τ sig (Elt Ideal)) : (after joinLine V (Proc.devRef .tc main_v415) : IVec S16x196x3 32)
    = concatenate S16x196x3 2 [⟨S16x196x1, (V (Proc.devRef .tc main_v412) : IVec S16x196x1 32)⟩,
      ⟨S16x196x1, (V (Proc.devRef .tc main_v413) : IVec S16x196x1 32)⟩, ⟨S16x196x1, (V (Proc.devRef .tc main_v414) : IVec S16x196x1 32)⟩]
      concatenates_S16x196x1_S16x196x1_S16x196x1_S16x196x3_d2 := by
  after_reads_simp
  rfl

/-- The three columns of codes side by side hold the problem's codes where each column holds its step's. -/
theorem join_at (K0 K1 K2 : IVec S16x196 32) (h : Img 16 14 14 256) (C : FVec Ideal S3x256x256 .f32)
    (h0 : ∀ (b : Fin 16) (n : Fin 196), K0 (ix2 b n) = BitVec.ofNat 32 (codes two C (latentRow h b n) 0 : ℕ))
    (h1 : ∀ (b : Fin 16) (n : Fin 196), K1 (ix2 b n) = BitVec.ofNat 32 (codes two C (latentRow h b n) 1 : ℕ))
    (h2 : ∀ (b : Fin 16) (n : Fin 196), K2 (ix2 b n) = BitVec.ofNat 32 (codes two C (latentRow h b n) 2 : ℕ)) :
    concatenate S16x196x3 2 [⟨S16x196x1, column K0⟩, ⟨S16x196x1, column K1⟩, ⟨S16x196x1, column K2⟩]
      concatenates_S16x196x1_S16x196x1_S16x196x1_S16x196x3_d2 = answer two h C := by
  funext j
  obtain ⟨b, n, i, rfl⟩ : ∃ (b : Fin 16) (n : Fin 196) (i : Fin 3), j = ix3 b n i :=
    ⟨j 0, j 1, j 2, by funext a; fin_cases a <;> rfl⟩
  rw [answer_at]
  fin_cases i
  · pointwise [column]
    exact h0 b n
  · pointwise [column]
    exact h1 b n
  · pointwise [column]
    exact h2 b n

end Cert.RefRun

end
-- ==== Proof.RefRun.lean ====
/-
  The reference's run: layer by layer and step by step to the answer, the arguments untouched.
-/
module

public import proofs.«01_k».proof.Proof.RefArgs
public import proofs.«01_k».proof.Proof.RefConv0
public import proofs.«01_k».proof.Proof.RefConv1
public import proofs.«01_k».proof.Proof.RefConv2
public import proofs.«01_k».proof.Proof.RefConv3
public import proofs.«01_k».proof.Proof.RefEnd
public import Idealize.ShloMosaic.Lib.Quiescent

@[expose] public section

set_option maxRecDepth 16384

noncomputable section

namespace Cert.RefRun

open Idealize.ShloMosaic Idealize.SL.Sem StableHlo Cert.ReferenceIdeal Cert.ReferenceIdeal.Gen Cert.Spec Cert.Block

variable (V : Valuation τ sig (Elt Ideal))

/-- The contents after the first `n` operations. -/
abbrev at_ (n : ℕ) : Valuation τ sig (Elt Ideal) := after (ops.take n) V

/-- The first layer of the arguments. -/
abbrev lay1 : Img 16 112 112 64 := layer1 (V (Proc.devRef .tc main_arg0)) (V (Proc.devRef .tc main_arg1)) (V (Proc.devRef .tc main_arg2))

/-- The second layer. -/
abbrev lay2 : Img 16 56 56 128 := layer2 (lay1 V) (V (Proc.devRef .tc main_arg3)) (V (Proc.devRef .tc main_arg4))

/-- The third layer. -/
abbrev lay3 : Img 16 28 28 256 := layer3 (lay2 V) (V (Proc.devRef .tc main_arg5)) (V (Proc.devRef .tc main_arg6))

/-- The latent image. -/
abbrev lay4 : Img 16 14 14 256 := layer4 (lay3 V) (V (Proc.devRef .tc main_arg7)) (V (Proc.devRef .tc main_arg8))

/-- The first layer's buffer. -/
theorem got1 : at_ V 89 (Proc.devRef .tc main_v84) = lay1 V :=
  (congrFun (after_take_add ops V 4 85) _).trans (ref_conv0 (at_ V 4)
    (fun b r s c => ref_pad0 V _ rfl b r s c) _ (args_kept V 4 main_arg1 (by decide)) _ (args_kept V 4 main_arg2 (by decide)))

/-- The second layer's buffer. -/
theorem got2 : at_ V 177 (Proc.devRef .tc main_v168) = lay2 V :=
  (congrFun (after_take_add ops V 92 85) _).trans (ref_conv1 (at_ V 92)
    (fun b r s c => (congrFun (congrFun (after_take_add ops V 89 3) _) _).trans (ref_pad1 (at_ V 89) _ (got1 V) b r s c))
    _ (args_kept V 92 main_arg3 (by decide)) _ (args_kept V 92 main_arg4 (by decide)))

/-- The third layer's buffer. -/
theorem got3 : at_ V 265 (Proc.devRef .tc main_v252) = lay3 V :=
  (congrFun (after_take_add ops V 180 85) _).trans (ref_conv2 (at_ V 180)
    (fun b r s c => (congrFun (congrFun (after_take_add ops V 177 3) _) _).trans (ref_pad2 (at_ V 177) _ (got2 V) b r s c))
    _ (args_kept V 180 main_arg5 (by decide)) _ (args_kept V 180 main_arg6 (by decide)))

/-- The latent image's buffer. -/
theorem got4 : at_ V 350 (Proc.devRef .tc main_v335) = lay4 V :=
  (congrFun (after_take_add ops V 268 82) _).trans (ref_conv3 (at_ V 268)
    (fun b r s c => (congrFun (congrFun (after_take_add ops V 265 3) _) _).trans (ref_pad3 (at_ V 265) _ (got3 V) b r s c))
    _ (args_kept V 268 main_arg7 (by decide)) _ (args_kept V 268 main_arg8 (by decide)))

/-- The codebooks. -/
abbrev books : FVec Ideal S3x256x256 .f32 := V (Proc.devRef .tc main_arg9)

/-- The rows before the second step. -/
abbrev rows1 : FVec Ideal S16x196x256 .f32 :=
  leftOf (rowsOf (lay4 V)) (book0 (books V)) (pickOf (distOf (rowsOf (lay4 V)) (book0 (books V))))

/-- The rows before the third step. -/
abbrev rows2 : FVec Ideal S16x196x256 .f32 :=
  leftOf (rows1 V) (book1 (books V)) (pickOf (distOf (rows1 V) (book1 (books V))))

/-- The first step's rows are the problem's. -/
theorem rows0_eq (b : Fin 16) (n : Fin 196) :
    (fun d => rowsOf (lay4 V) (ix3 b n d)) = residual two (books V) (latentRow (lay4 V) b n) 0 :=
  funext fun d => rows_at (lay4 V) b n d

/-- The second step's rows are the problem's. -/
theorem rows1_eq (b : Fin 16) (n : Fin 196) :
    (fun d => rows1 V (ix3 b n d)) = residual two (books V) (latentRow (lay4 V) b n) 1 := by
  funext d
  refine (left_at _ _ b n d).trans ?_
  rw [rows0_eq V b n, show (fun k d => book0 (books V) (ix2 k d)) = book (books V) 0 from
    funext fun k => funext fun d => book0_at (books V) k d]
  rfl

/-- The third step's rows are the problem's. -/
theorem rows2_eq (b : Fin 16) (n : Fin 196) :
    (fun d => rows2 V (ix3 b n d)) = residual two (books V) (latentRow (lay4 V) b n) 2 := by
  funext d
  refine (left_at _ _ b n d).trans ?_
  rw [rows1_eq V b n, show (fun k d => book1 (books V) (ix2 k d)) = book (books V) 1 from
    funext fun k => funext fun d => book1_at (books V) k d]
  rfl

/-- The codes of a step whose rows and codebook are the problem's. -/
theorem step_code (R : FVec Ideal S16x196x256 .f32) (cb : FVec Ideal S256x256 .f32) (i : Fin 3)
    (hR : ∀ (b : Fin 16) (n : Fin 196), (fun d => R (ix3 b n d)) = residual two (books V) (latentRow (lay4 V) b n) i)
    (hcb : ∀ k d : Fin 256, cb (ix2 k d) = book (books V) i k d) (b : Fin 16) (n : Fin 196) :
    pickOf (distOf R cb) (ix2 b n) = BitVec.ofNat 32 (codes two (books V) (latentRow (lay4 V) b n) i : ℕ) := by
  rw [code_at, hR, show (fun k d => cb (ix2 k d)) = book (books V) i from funext fun k => funext fun d => hcb k d]
  rfl

/-- The first step's codes, where the second step begins. -/
theorem code0 : at_ V 385 (Proc.devRef .tc main_v353) = pickOf (distOf (rowsOf (lay4 V)) (book0 (books V))) :=
  (congrFun (after_take_add ops V 350 35) _).trans (ref_code0 (at_ V 350) _ _ (got4 V) (args_kept V 350 main_arg9 (by decide)))

/-- What the first step leaves. -/
theorem left0 : at_ V 385 (Proc.devRef .tc main_v361) = rows1 V :=
  (congrFun (after_take_add ops V 350 35) _).trans (ref_left0 (at_ V 350) _ _ (got4 V) (args_kept V 350 main_arg9 (by decide)))

/-- The second step's codes, where the third step begins. -/
theorem code1 : at_ V 419 (Proc.devRef .tc main_v378) = pickOf (distOf (rows1 V) (book1 (books V))) :=
  (congrFun (after_take_add ops V 385 34) _).trans (ref_code1 (at_ V 385) _ _ (left0 V) (args_kept V 385 main_arg9 (by decide)))

/-- What the second step leaves. -/
theorem left1 : at_ V 419 (Proc.devRef .tc main_v386) = rows2 V :=
  (congrFun (after_take_add ops V 385 34) _).trans (ref_left1 (at_ V 385) _ _ (left0 V) (args_kept V 385 main_arg9 (by decide)))

/-- The third step's codes, where the end begins. -/
theorem code2 : at_ V 443 (Proc.devRef .tc main_v403) = pickOf (distOf (rows2 V) (book2 (books V))) :=
  (congrFun (after_take_add ops V 419 24) _).trans (ref_code2 (at_ V 419) _ _ (left1 V) (args_kept V 419 main_arg9 (by decide)))

/-- The second step's codes are still there. -/
theorem code1' : at_ V 443 (Proc.devRef .tc main_v378) = pickOf (distOf (rows1 V) (book1 (books V))) :=
  (congrFun (after_take_add ops V 419 24) _).trans ((step2_keeps1 (at_ V 419)).trans (code1 V))

/-- The first step's codes are still there. -/
theorem code0' : at_ V 443 (Proc.devRef .tc main_v353) = pickOf (distOf (rowsOf (lay4 V)) (book0 (books V))) :=
  (congrFun (after_take_add ops V 419 24) _).trans ((step2_keeps0 (at_ V 419)).trans
    ((congrFun (after_take_add ops V 385 34) _).trans ((step1_keeps (at_ V 385)).trans (code0 V))))

/-- The result's buffer holds the answer. -/
theorem result_eq : at_ V 457 (Proc.devRef .tc main_v415) = answer two (lay4 V) (books V) := by
  refine (congrFun (after_take_add ops V 456 1) _).trans ((join_eq (at_ V 456)).trans ?_)
  have e0 : (at_ V 456 (Proc.devRef .tc main_v412) : IVec S16x196x1 32) = column (pickOf (distOf (rowsOf (lay4 V)) (book0 (books V)))) :=
    (congrFun (after_take_add ops V 443 13) _).trans (last0 (at_ V 443) _ (code0' V))
  have e1 : (at_ V 456 (Proc.devRef .tc main_v413) : IVec S16x196x1 32) = column (pickOf (distOf (rows1 V) (book1 (books V)))) :=
    (congrFun (after_take_add ops V 443 13) _).trans (last1 (at_ V 443) _ (code1' V))
  have e2 : (at_ V 456 (Proc.devRef .tc main_v414) : IVec S16x196x1 32) = column (pickOf (distOf (rows2 V) (book2 (books V)))) :=
    (congrFun (after_take_add ops V 443 13) _).trans (last2 (at_ V 443) _ (code2 V))
  rw [e0, e1, e2]
  exact join_at _ _ _ (lay4 V) (books V) (step_code V _ _ 0 (rows0_eq V) (book0_at _)) (step_code V _ _ 1 (rows1_eq V) (book1_at _))
    (step_code V _ _ 2 (rows2_eq V) (book2_at _))

/-- The first 457 operations are all. -/
theorem take_all : (ops : List Op).take 457 = ops := rfl

/-- Every semaphore counter of the reference is zero, for it has none. -/
theorem sems_zero (s : MemSt nD τ sig (Elt Ideal)) : s.sem = fun _ => 0 := sem_eq_zero_of_no_sems (by decide) s

variable (m : (ℓ : Loc nD τ sig) → Buf (Elt Ideal) ℓ) (ρ : Dev nD → PrngReg)

/-- The reference ends with the answer in its result's buffer and its arguments untouched. -/
theorem ref_run : θ_run (defs (F := Ideal)) (onTc (τ := τ) (main (F := Ideal))) ⟨m, fun _ => 0, ρ⟩ (fun r => ∀ c : Dev nD,
    r.2.mem ((c.tc : Thread nD τ).loc main_v415) = answer two (lay4 (launchContents m c)) (m ((c.tc : Thread nD τ).loc main_arg9))
    ∧ ∀ b : Ref sig .tc, (b.idx : ℕ) < 10 → r.2.mem ((c.tc : Thread nD τ).loc b) = m ((c.tc : Thread nD τ).loc b)) :=
  θ_run_mono (run m ρ) fun r h c =>
    ⟨(h c main_v415).trans (result_eq (launchContents m c)), fun b hb => (h c b).trans (args_kept (launchContents m c) 457 b hb)⟩

end Cert.RefRun

end
-- ==== Proof.lean ====
/-
  The certificate: the three frames, and the kernel's answer equal to the reference's over the extended reals.
-/
module

public import proofs.«01_k».proof.Defs
public import proofs.«01_k».proof.Proof.Gen.Kernel.Frame
public import proofs.«01_k».proof.Proof.KernelRun
public import proofs.«01_k».proof.Proof.RefRun

@[expose] public section

noncomputable section

namespace Cert.Proof

open Idealize.ShloMosaic Idealize.SL.Sem Cert.Spec Cert.Block

/-- The reference leaves its arguments untouched and every semaphore counter at zero. -/
theorem reference_frame : quiescent_ReferenceIdeal (hReferenceIdeal := Cert.ReferenceIdeal.Gen.facts) := fun m ρ _ =>
  θ_run_mono (Cert.RefRun.ref_run m ρ) fun r h => ⟨fun c =>
    ⟨(h c).2 _ (by decide), (h c).2 _ (by decide), (h c).2 _ (by decide), (h c).2 _ (by decide), (h c).2 _ (by decide),
      (h c).2 _ (by decide), (h c).2 _ (by decide), (h c).2 _ (by decide), (h c).2 _ (by decide), (h c).2 _ (by decide)⟩,
    Cert.RefRun.sems_zero r.2⟩

/-- From the same arguments the two latent images are the same. -/
theorem latent_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.RefRun.lay4 (StableHlo.launchContents m' c) = Cert.HostRun.img4 m c :=
  congr (congr (congrArg layer4
    (congr (congr (congrArg layer3
      (congr (congr (congrArg layer2 (congr (congr (congrArg layer1 h0) h1) h2)) h3) h4)) h5) h6)) h7) h8

/-- The kernel and the reference, from the same arguments, end with the same codes. -/
theorem same_codes : algebraic_KernelIdeal_ReferenceIdeal (hKernelIdeal := Cert.KernelIdeal.Gen.facts)
    (hReferenceIdeal := Cert.ReferenceIdeal.Gen.facts) := fun m ρ m' ρ' _ heq =>
  ⟨fun c => answer two (Cert.HostRun.img4 m c) (m ((c.tc : Thread Cert.KernelIdeal.nD Cert.KernelIdeal.τ).loc Cert.KernelIdeal.main_arg9)),
    Cert.HostRun.kernel_run m ρ,
    θ_run_mono (Cert.RefRun.ref_run m' ρ') fun r h c => by
      obtain ⟨h0, h1, h2, h3, h4, h5, h6, h7, h8, h9⟩ := heq c
      exact ⟨(h c).1.trans (congr (congrArg (answer two) (latent_eq m m' c h0 h1 h2 h3 h4 h5 h6 h7 h8)) h9),
        (h c).2 _ (by decide), (h c).2 _ (by decide), (h c).2 _ (by decide), (h c).2 _ (by decide), (h c).2 _ (by decide),
        (h c).2 _ (by decide), (h c).2 _ (by decide), (h c).2 _ (by decide), (h c).2 _ (by decide), (h c).2 _ (by decide)⟩⟩

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, same_codes⟩

end Cert.Proof

end
